-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x20736x8 : Shape := ⟨3, ![1, 20736, 8]⟩
abbrev S20736x4 : Shape := ⟨2, ![20736, 4]⟩
abbrev S20736x8 : Shape := ⟨2, ![20736, 8]⟩
abbrev S20736x1 : Shape := ⟨2, ![20736, 1]⟩
abbrev S20736 : Shape := ⟨1, ![20736]⟩
abbrev S_ : Shape := ⟨0, ![]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x8 : Shape := ⟨2, ![1024, 8]⟩
abbrev S1024x4 : Shape := ⟨2, ![1024, 4]⟩
abbrev S8x1024 : Shape := ⟨2, ![8, 1024]⟩
abbrev S4x1024 : Shape := ⟨2, ![4, 1024]⟩
abbrev S128x1024 : Shape := ⟨2, ![128, 1024]⟩
abbrev S1x1024 : Shape := ⟨2, ![1, 1024]⟩
abbrev S1024x3 : Shape := ⟨2, ![1024, 3]⟩
abbrev S1x128 : Shape := ⟨2, ![1, 128]⟩
abbrev S128x128 : Shape := ⟨2, ![128, 128]⟩
abbrev S128x1 : Shape := ⟨2, ![128, 1]⟩
abbrev S8x128 : Shape := ⟨2, ![8, 128]⟩
abbrev S128 : Shape := ⟨1, ![128]⟩
abbrev S1x1x128 : Shape := ⟨3, ![1, 1, 128]⟩
abbrev S1x1x1 : Shape := ⟨3, ![1, 1, 1]⟩
abbrev S7x1024 : Shape := ⟨2, ![7, 1024]⟩
abbrev S1024x7 : Shape := ⟨2, ![1024, 7]⟩

abbrev nBuf : Space → Nat
  | .hbm => 66
  | .vmem => 8
  | .smem => 0
  | _ => 0

abbrev bufTy : (tb : Table) → Fin (tcTables nBuf tb) → BufTy
  | .hbm, ⟨0, _⟩ => ⟨S1x20736x8, .f32⟩
  | .hbm, ⟨1, _⟩ => ⟨S20736x4, .f32⟩
  | .hbm, ⟨2, _⟩ => ⟨S20736x8, .f32⟩
  | .hbm, ⟨3, _⟩ => ⟨S20736x1, .f32⟩
  | .hbm, ⟨4, _⟩ => ⟨S20736, .f32⟩
  | .hbm, ⟨5, _⟩ => ⟨S20736, .f32⟩
  | .hbm, ⟨6, _⟩ => ⟨S20736, .f32⟩
  | .hbm, ⟨7, _⟩ => ⟨S_, .f32⟩
  | .hbm, ⟨8, _⟩ => ⟨S20736, .f32⟩
  | .hbm, ⟨9, _⟩ => ⟨S20736, .f32⟩
  | .hbm, ⟨10, _⟩ => ⟨S_, .f32⟩
  | .hbm, ⟨11, _⟩ => ⟨S20736, .f32⟩
  | .hbm, ⟨12, _⟩ => ⟨S20736, .f32⟩
  | .hbm, ⟨13, _⟩ => ⟨S1024, .f32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1, .i32⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1x1, .i32⟩
  | .hbm, ⟨28, _⟩ => ⟨S1024x1, .i32⟩
  | .hbm, ⟨29, _⟩ => ⟨S1024x1, .i1⟩
  | .hbm, ⟨30, _⟩ => ⟨S1024x1, .i1⟩
  | .hbm, ⟨31, _⟩ => ⟨S_, .i1⟩
  | .hbm, ⟨32, _⟩ => ⟨S1024, .i1⟩
  | .hbm, ⟨33, _⟩ => ⟨S1024x8, .f32⟩
  | .hbm, ⟨34, _⟩ => ⟨S1024x8, .i1⟩
  | .hbm, ⟨35, _⟩ => ⟨S_, .f32⟩
  | .hbm, ⟨36, _⟩ => ⟨S1024x8, .f32⟩
  | .hbm, ⟨37, _⟩ => ⟨S1024x8, .f32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S_, .i32⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S1024x1, .i32⟩
  | .hbm, ⟨46, _⟩ => ⟨S1, .i32⟩
  | .hbm, ⟨47, _⟩ => ⟨S_, .i32⟩
  | .hbm, ⟨48, _⟩ => ⟨S1024x1, .i32⟩
  | .hbm, ⟨49, _⟩ => ⟨S1024x1, .i1⟩
  | .hbm, ⟨50, _⟩ => ⟨S1x1, .i32⟩
  | .hbm, ⟨51, _⟩ => ⟨S1024x1, .i32⟩
  | .hbm, ⟨52, _⟩ => ⟨S1024x1, .i1⟩
  | .hbm, ⟨53, _⟩ => ⟨S1024x1, .i1⟩
  | .hbm, ⟨54, _⟩ => ⟨S_, .i1⟩
  | .hbm, ⟨55, _⟩ => ⟨S1024, .i1⟩
  | .hbm, ⟨56, _⟩ => ⟨S1024x4, .f32⟩
  | .hbm, ⟨57, _⟩ => ⟨S1024x4, .i1⟩
  | .hbm, ⟨58, _⟩ => ⟨S_, .f32⟩
  | .hbm, ⟨59, _⟩ => ⟨S1024x4, .f32⟩
  | .hbm, ⟨60, _⟩ => ⟨S1024x4, .f32⟩
  | .hbm, ⟨61, _⟩ => ⟨S8x1024, .f32⟩
  | .hbm, ⟨62, _⟩ => ⟨S4x1024, .f32⟩
  | .hbm, ⟨63, _⟩ => ⟨S8x1024, .f32⟩
  | .hbm, ⟨64, _⟩ => ⟨S7x1024, .f32⟩
  | .hbm, ⟨65, _⟩ => ⟨S1024x7, .f32⟩
  | .local _ .vmem, ⟨0, _⟩ => ⟨S1024x8, .f32⟩
  | .local _ .vmem, ⟨1, _⟩ => ⟨S1024x4, .f32⟩
  | .local _ .vmem, ⟨2, _⟩ => ⟨S8x1024, .f32⟩
  | .local _ .vmem, ⟨3, _⟩ => ⟨S4x1024, .f32⟩
  | .local _ .vmem, ⟨4, _⟩ => ⟨S8x1024, .f32⟩
  | .local _ .vmem, ⟨5, _⟩ => ⟨S1024x8, .f32⟩
  | .local _ .vmem, ⟨6, _⟩ => ⟨S128x1024, .f32⟩
  | .local _ .vmem, ⟨7, _⟩ => ⟨S1x1024, .f32⟩
  | _, _ => ⟨S1x20736x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_values : Ref sig .tc := ⟨.hbm, 13, rfl⟩
abbrev main_indices : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v9 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v167 : BitVec 32 := Scalar.addi c0_i32 c128_i32
  let c1_i32 : BitVec 32 := 1#32
  ⟨c0_i32, v167, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  v691
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  let v692 : BitVec 32 := v691
  let v693 : Index := Scalar.indexCast v692
  let c0_340 : Index := 0#32
  ![v693.toNat, 0]
@[reducible] def k0_t2_loop : Scf.Loop 32 :=
  let c0_i32_102 : BitVec 32 := 0#32
  let c128_i32_103 : BitVec 32 := 128#32
  let v235 : BitVec 32 := Scalar.addi c0_i32_102 c128_i32_103
  let c1_i32_104 : BitVec 32 := 1#32
  ⟨c0_i32_102, v235, c1_i32_104⟩
def k0_mult2 (k0_t2 : Fin k0_t2_loop.trips) : BitVec 32 :=
  let c0_i32_102 : BitVec 32 := 0#32
  let c1_i32_104 : BitVec 32 := 1#32
  let arg8 : BitVec 32 := Scf.iv c0_i32_102 c1_i32_104 k0_t2
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  v691
def k0_off2 (k0_t2 : Fin k0_t2_loop.trips) : Fin 2 → Nat :=
  let c0_i32_102 : BitVec 32 := 0#32
  let c1_i32_104 : BitVec 32 := 1#32
  let arg8 : BitVec 32 := Scf.iv c0_i32_102 c1_i32_104 k0_t2
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  let v692 : BitVec 32 := v691
  let v693 : Index := Scalar.indexCast v692
  let c128_340 : Index := 128#32
  ![v693.toNat, 128]
@[reducible] def k0_t3_loop : Scf.Loop 32 :=
  let c0_i32_137 : BitVec 32 := 0#32
  let c128_i32_138 : BitVec 32 := 128#32
  let v303 : BitVec 32 := Scalar.addi c0_i32_137 c128_i32_138
  let c1_i32_139 : BitVec 32 := 1#32
  ⟨c0_i32_137, v303, c1_i32_139⟩
def k0_mult3 (k0_t3 : Fin k0_t3_loop.trips) : BitVec 32 :=
  let c0_i32_137 : BitVec 32 := 0#32
  let c1_i32_139 : BitVec 32 := 1#32
  let arg8 : BitVec 32 := Scf.iv c0_i32_137 c1_i32_139 k0_t3
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  v691
def k0_off3 (k0_t3 : Fin k0_t3_loop.trips) : Fin 2 → Nat :=
  let c0_i32_137 : BitVec 32 := 0#32
  let c1_i32_139 : BitVec 32 := 1#32
  let arg8 : BitVec 32 := Scf.iv c0_i32_137 c1_i32_139 k0_t3
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  let v692 : BitVec 32 := v691
  let v693 : Index := Scalar.indexCast v692
  let c256_340 : Index := 256#32
  ![v693.toNat, 256]
@[reducible] def k0_t4_loop : Scf.Loop 32 :=
  let c0_i32_172 : BitVec 32 := 0#32
  let c128_i32_173 : BitVec 32 := 128#32
  let v371 : BitVec 32 := Scalar.addi c0_i32_172 c128_i32_173
  let c1_i32_174 : BitVec 32 := 1#32
  ⟨c0_i32_172, v371, c1_i32_174⟩
def k0_mult4 (k0_t4 : Fin k0_t4_loop.trips) : BitVec 32 :=
  let c0_i32_172 : BitVec 32 := 0#32
  let c1_i32_174 : BitVec 32 := 1#32
  let arg8 : BitVec 32 := Scf.iv c0_i32_172 c1_i32_174 k0_t4
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  v691
def k0_off4 (k0_t4 : Fin k0_t4_loop.trips) : Fin 2 → Nat :=
  let c0_i32_172 : BitVec 32 := 0#32
  let c1_i32_174 : BitVec 32 := 1#32
  let arg8 : BitVec 32 := Scf.iv c0_i32_172 c1_i32_174 k0_t4
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  let v692 : BitVec 32 := v691
  let v693 : Index := Scalar.indexCast v692
  let c384_340 : Index := 384#32
  ![v693.toNat, 384]
@[reducible] def k0_t5_loop : Scf.Loop 32 :=
  let c0_i32_207 : BitVec 32 := 0#32
  let c128_i32_208 : BitVec 32 := 128#32
  let v439 : BitVec 32 := Scalar.addi c0_i32_207 c128_i32_208
  let c1_i32_209 : BitVec 32 := 1#32
  ⟨c0_i32_207, v439, c1_i32_209⟩
def k0_mult5 (k0_t5 : Fin k0_t5_loop.trips) : BitVec 32 :=
  let c0_i32_207 : BitVec 32 := 0#32
  let c1_i32_209 : BitVec 32 := 1#32
  let arg8 : BitVec 32 := Scf.iv c0_i32_207 c1_i32_209 k0_t5
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  v691
def k0_off5 (k0_t5 : Fin k0_t5_loop.trips) : Fin 2 → Nat :=
  let c0_i32_207 : BitVec 32 := 0#32
  let c1_i32_209 : BitVec 32 := 1#32
  let arg8 : BitVec 32 := Scf.iv c0_i32_207 c1_i32_209 k0_t5
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  let v692 : BitVec 32 := v691
  let v693 : Index := Scalar.indexCast v692
  let c512_340 : Index := 512#32
  ![v693.toNat, 512]
@[reducible] def k0_t6_loop : Scf.Loop 32 :=
  let c0_i32_242 : BitVec 32 := 0#32
  let c128_i32_243 : BitVec 32 := 128#32
  let v507 : BitVec 32 := Scalar.addi c0_i32_242 c128_i32_243
  let c1_i32_244 : BitVec 32 := 1#32
  ⟨c0_i32_242, v507, c1_i32_244⟩
def k0_mult6 (k0_t6 : Fin k0_t6_loop.trips) : BitVec 32 :=
  let c0_i32_242 : BitVec 32 := 0#32
  let c1_i32_244 : BitVec 32 := 1#32
  let arg8 : BitVec 32 := Scf.iv c0_i32_242 c1_i32_244 k0_t6
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  v691
def k0_off6 (k0_t6 : Fin k0_t6_loop.trips) : Fin 2 → Nat :=
  let c0_i32_242 : BitVec 32 := 0#32
  let c1_i32_244 : BitVec 32 := 1#32
  let arg8 : BitVec 32 := Scf.iv c0_i32_242 c1_i32_244 k0_t6
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  let v692 : BitVec 32 := v691
  let v693 : Index := Scalar.indexCast v692
  let c640_340 : Index := 640#32
  ![v693.toNat, 640]
@[reducible] def k0_t7_loop : Scf.Loop 32 :=
  let c0_i32_277 : BitVec 32 := 0#32
  let c128_i32_278 : BitVec 32 := 128#32
  let v575 : BitVec 32 := Scalar.addi c0_i32_277 c128_i32_278
  let c1_i32_279 : BitVec 32 := 1#32
  ⟨c0_i32_277, v575, c1_i32_279⟩
def k0_mult7 (k0_t7 : Fin k0_t7_loop.trips) : BitVec 32 :=
  let c0_i32_277 : BitVec 32 := 0#32
  let c1_i32_279 : BitVec 32 := 1#32
  let arg8 : BitVec 32 := Scf.iv c0_i32_277 c1_i32_279 k0_t7
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  v691
def k0_off7 (k0_t7 : Fin k0_t7_loop.trips) : Fin 2 → Nat :=
  let c0_i32_277 : BitVec 32 := 0#32
  let c1_i32_279 : BitVec 32 := 1#32
  let arg8 : BitVec 32 := Scf.iv c0_i32_277 c1_i32_279 k0_t7
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  let v692 : BitVec 32 := v691
  let v693 : Index := Scalar.indexCast v692
  let c768_340 : Index := 768#32
  ![v693.toNat, 768]
@[reducible] def k0_t8_loop : Scf.Loop 32 :=
  let c0_i32_312 : BitVec 32 := 0#32
  let c128_i32_313 : BitVec 32 := 128#32
  let v643 : BitVec 32 := Scalar.addi c0_i32_312 c128_i32_313
  let c1_i32_314 : BitVec 32 := 1#32
  ⟨c0_i32_312, v643, c1_i32_314⟩
def k0_mult8 (k0_t8 : Fin k0_t8_loop.trips) : BitVec 32 :=
  let c0_i32_312 : BitVec 32 := 0#32
  let c1_i32_314 : BitVec 32 := 1#32
  let arg8 : BitVec 32 := Scf.iv c0_i32_312 c1_i32_314 k0_t8
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  v691
def k0_off8 (k0_t8 : Fin k0_t8_loop.trips) : Fin 2 → Nat :=
  let c0_i32_312 : BitVec 32 := 0#32
  let c1_i32_314 : BitVec 32 := 1#32
  let arg8 : BitVec 32 := Scf.iv c0_i32_312 c1_i32_314 k0_t8
  let c0_i32_333 : BitVec 32 := 0#32
  let v675 : BitVec 1 := Scalar.cmpi .sgt arg8 c0_i32_333
  let v676 : BitVec 32 := Scalar.extui v675
  let c0_i32_334 : BitVec 32 := 0#32
  let v677 : BitVec 1 := Scalar.cmpi .slt arg8 c0_i32_334
  let v678 : BitVec 32 := Scalar.extui v677
  let v679 : BitVec 32 := Scalar.subi v676 v678
  let c8_i32 : BitVec 32 := 8#32
  let c0_i32_335 : BitVec 32 := 0#32
  let v680 : BitVec 1 := Scalar.cmpi .sgt c8_i32 c0_i32_335
  let v681 : BitVec 32 := Scalar.extui v680
  let c0_i32_336 : BitVec 32 := 0#32
  let v682 : BitVec 1 := Scalar.cmpi .slt c8_i32 c0_i32_336
  let v683 : BitVec 32 := Scalar.extui v682
  let v684 : BitVec 32 := Scalar.subi v681 v683
  let v685 : BitVec 1 := Scalar.cmpi .ne v679 v684
  let v686 : BitVec 32 := Scalar.remsi arg8 c8_i32
  let c0_i32_337 : BitVec 32 := 0#32
  let v687 : BitVec 1 := Scalar.cmpi .ne v686 c0_i32_337
  let v688 : BitVec 1 := Scalar.andi v685 v687
  let v674 : BitVec 32 := Scalar.divsi arg8 c8_i32
  let c1_i32_338 : BitVec 32 := 1#32
  let v689 : BitVec 32 := Scalar.subi v674 c1_i32_338
  let v690 : BitVec 32 := Scalar.select v688 v689 v674
  let c8_i32_339 : BitVec 32 := 8#32
  let v691 : BitVec 32 := Scalar.muli v690 c8_i32_339
  let v692 : BitVec 32 := v691
  let v693 : Index := Scalar.indexCast v692
  let c896_340 : Index := 896#32
  ![v693.toNat, 896]
abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x20736x8 : Shape := ⟨3, ![1, 20736, 8]⟩
abbrev S20736x4 : Shape := ⟨2, ![20736, 4]⟩
abbrev S1x20736x3 : Shape := ⟨3, ![1, 20736, 3]⟩
abbrev S_ : Shape := ⟨0, ![]⟩
abbrev S1x20736 : Shape := ⟨2, ![1, 20736]⟩
abbrev S1x20736x1 : Shape := ⟨3, ![1, 20736, 1]⟩
abbrev S1x20736x4 : Shape := ⟨3, ![1, 20736, 4]⟩
abbrev S20736x1 : Shape := ⟨2, ![20736, 1]⟩
abbrev S20736 : Shape := ⟨1, ![20736]⟩
abbrev S1x20736x7 : Shape := ⟨3, ![1, 20736, 7]⟩
abbrev S20736x7 : Shape := ⟨2, ![20736, 7]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x7 : Shape := ⟨2, ![1024, 7]⟩
abbrev S1024x4 : Shape := ⟨2, ![1024, 4]⟩
abbrev S1x1024 : Shape := ⟨2, ![1, 1024]⟩
abbrev S1024x1024 : Shape := ⟨2, ![1024, 1024]⟩

abbrev nBuf : Space → Nat
  | .hbm => 272
  | .vmem => 0
  | .smem => 0
  | _ => 0

abbrev hbmTy0_0 (i : Nat) : BufTy := match i % 128 with
  | 0 => ⟨S1x20736x8, .f32⟩
  | 1 => ⟨S20736x4, .f32⟩
  | 2 => ⟨S1x20736x3, .f32⟩
  | 3 => ⟨S_, .f32⟩
  | 4 => ⟨S1x20736, .f32⟩
  | 5 => ⟨S_, .f32⟩
  | 6 => ⟨S1x20736, .f32⟩
  | 7 => ⟨S1x20736, .f32⟩
  | 8 => ⟨S1x20736x1, .f32⟩
  | 9 => ⟨S1x20736x3, .f32⟩
  | 10 => ⟨S1x20736x3, .f32⟩
  | 11 => ⟨S1x20736x3, .f32⟩
  | 12 => ⟨S_, .f32⟩
  | 13 => ⟨S1x20736, .f32⟩
  | 14 => ⟨S1x20736x1, .f32⟩
  | 15 => ⟨S1x20736x3, .f32⟩
  | 16 => ⟨S1x20736x3, .f32⟩
  | 17 => ⟨S1x20736x1, .f32⟩
  | 18 => ⟨S1x20736, .f32⟩
  | 19 => ⟨S1x20736, .f32⟩
  | 20 => ⟨S1x20736, .f32⟩
  | 21 => ⟨S_, .f32⟩
  | 22 => ⟨S1x20736, .f32⟩
  | 23 => ⟨S1x20736, .f32⟩
  | 24 => ⟨S_, .f32⟩
  | 25 => ⟨S1x20736, .f32⟩
  | 26 => ⟨S1x20736, .f32⟩
  | 27 => ⟨S1x20736x4, .f32⟩
  | 28 => ⟨S20736x1, .f32⟩
  | 29 => ⟨S20736, .f32⟩
  | 30 => ⟨S1x20736, .f32⟩
  | 31 => ⟨S20736x1, .f32⟩
  | 32 => ⟨S20736, .f32⟩
  | 33 => ⟨S1x20736, .f32⟩
  | 34 => ⟨S1x20736x1, .f32⟩
  | 35 => ⟨S1x20736, .f32⟩
  | 36 => ⟨S1x20736, .f32⟩
  | 37 => ⟨S1x20736, .f32⟩
  | 38 => ⟨S20736x1, .f32⟩
  | 39 => ⟨S20736, .f32⟩
  | 40 => ⟨S1x20736, .f32⟩
  | 41 => ⟨S20736x1, .f32⟩
  | 42 => ⟨S20736, .f32⟩
  | 43 => ⟨S1x20736, .f32⟩
  | 44 => ⟨S1x20736x1, .f32⟩
  | 45 => ⟨S1x20736, .f32⟩
  | 46 => ⟨S1x20736, .f32⟩
  | 47 => ⟨S1x20736, .f32⟩
  | 48 => ⟨S20736x1, .f32⟩
  | 49 => ⟨S20736, .f32⟩
  | 50 => ⟨S1x20736, .f32⟩
  | 51 => ⟨S1x20736x1, .f32⟩
  | 52 => ⟨S1x20736, .f32⟩
  | 53 => ⟨S1x20736, .f32⟩
  | 54 => ⟨S1x20736, .f32⟩
  | 55 => ⟨S20736x1, .f32⟩
  | 56 => ⟨S20736, .f32⟩
  | 57 => ⟨S1x20736, .f32⟩
  | 58 => ⟨S1x20736x1, .f32⟩
  | 59 => ⟨S1x20736, .f32⟩
  | 60 => ⟨S1x20736, .f32⟩
  | 61 => ⟨S1x20736, .f32⟩
  | 62 => ⟨S_, .f32⟩
  | 63 => ⟨S1x20736, .f32⟩
  | 64 => ⟨S1x20736, .f32⟩
  | 65 => ⟨S1x20736, .f32⟩
  | 66 => ⟨S_, .f32⟩
  | 67 => ⟨S1x20736, .f32⟩
  | 68 => ⟨S1x20736, .f32⟩
  | 69 => ⟨S1x20736, .f32⟩
  | 70 => ⟨S_, .f32⟩
  | 71 => ⟨S1x20736, .f32⟩
  | 72 => ⟨S1x20736, .f32⟩
  | 73 => ⟨S1x20736, .f32⟩
  | 74 => ⟨S_, .f32⟩
  | 75 => ⟨S1x20736, .f32⟩
  | 76 => ⟨S1x20736, .f32⟩
  | 77 => ⟨S1x20736, .f32⟩
  | 78 => ⟨S1x20736x1, .f32⟩
  | 79 => ⟨S1x20736x1, .f32⟩
  | 80 => ⟨S1x20736x1, .f32⟩
  | 81 => ⟨S1x20736x1, .f32⟩
  | 82 => ⟨S1x20736x4, .f32⟩
  | 83 => ⟨S1x20736x3, .i32⟩
  | 84 => ⟨S_, .f32⟩
  | 85 => ⟨S_, .i32⟩
  | 86 => ⟨S1x20736, .f32⟩
  | 87 => ⟨S1x20736, .i32⟩
  | 88 => ⟨S1x20736, .f32⟩
  | 89 => ⟨S_, .f32⟩
  | 90 => ⟨S1x20736, .f32⟩
  | 91 => ⟨S1x20736x1, .f32⟩
  | 92 => ⟨S1x20736x1, .f32⟩
  | 93 => ⟨S1x20736x1, .f32⟩
  | 94 => ⟨S1x20736x7, .f32⟩
  | 95 => ⟨S20736x7, .f32⟩
  | 96 => ⟨S20736x1, .f32⟩
  | 97 => ⟨S20736, .f32⟩
  | 98 => ⟨S20736, .f32⟩
  | 99 => ⟨S20736, .i32⟩
  | 100 => ⟨S20736, .f32⟩
  | 101 => ⟨S20736, .i32⟩
  | 102 => ⟨S1024, .i32⟩
  | 103 => ⟨S_, .i32⟩
  | 104 => ⟨S1024, .i32⟩
  | 105 => ⟨S1024, .i1⟩
  | 106 => ⟨S_, .i32⟩
  | 107 => ⟨S1024, .i32⟩
  | 108 => ⟨S1024, .i32⟩
  | 109 => ⟨S1024, .i32⟩
  | 110 => ⟨S1024x1, .i32⟩
  | 111 => ⟨S1, .i32⟩
  | 112 => ⟨S_, .i32⟩
  | 113 => ⟨S1024x1, .i32⟩
  | 114 => ⟨S1024x1, .i1⟩
  | 115 => ⟨S1x1, .i32⟩
  | 116 => ⟨S1024x1, .i32⟩
  | 117 => ⟨S1024x1, .i1⟩
  | 118 => ⟨S1024x1, .i1⟩
  | 119 => ⟨S_, .i1⟩
  | 120 => ⟨S1024, .i1⟩
  | 121 => ⟨S1024x7, .f32⟩
  | 122 => ⟨S1024x7, .i1⟩
  | 123 => ⟨S_, .f32⟩
  | 124 => ⟨S1024x7, .f32⟩
  | 125 => ⟨S1024x7, .f32⟩
  | 126 => ⟨S1024x4, .f32⟩
  | 127 => ⟨S1024x1, .f32⟩
  | _ => ⟨S1x20736x8, .f32⟩

abbrev hbmTy0_1 (i : Nat) : BufTy := match i % 128 with
  | 0 => ⟨S1024, .f32⟩
  | 1 => ⟨S1024x1, .f32⟩
  | 2 => ⟨S1024, .f32⟩
  | 3 => ⟨S1024x1, .f32⟩
  | 4 => ⟨S1024, .f32⟩
  | 5 => ⟨S1024x1, .f32⟩
  | 6 => ⟨S1024, .f32⟩
  | 7 => ⟨S1024x1, .f32⟩
  | 8 => ⟨S1024, .f32⟩
  | 9 => ⟨S1024x1, .f32⟩
  | 10 => ⟨S1024, .f32⟩
  | 11 => ⟨S1024x1, .f32⟩
  | 12 => ⟨S1024, .f32⟩
  | 13 => ⟨S1024, .f32⟩
  | 14 => ⟨S_, .f32⟩
  | 15 => ⟨S_, .f32⟩
  | 16 => ⟨S1024, .f32⟩
  | 17 => ⟨S1024, .f32⟩
  | 18 => ⟨S1024, .f32⟩
  | 19 => ⟨S_, .f32⟩
  | 20 => ⟨S_, .f32⟩
  | 21 => ⟨S1024, .f32⟩
  | 22 => ⟨S1024, .f32⟩
  | 23 => ⟨S1024, .f32⟩
  | 24 => ⟨S1024x1, .f32⟩
  | 25 => ⟨S1x1024, .f32⟩
  | 26 => ⟨S1024x1024, .f32⟩
  | 27 => ⟨S1024x1024, .f32⟩
  | 28 => ⟨S1024x1024, .f32⟩
  | 29 => ⟨S1024x1, .f32⟩
  | 30 => ⟨S1x1024, .f32⟩
  | 31 => ⟨S1024x1024, .f32⟩
  | 32 => ⟨S1024x1024, .f32⟩
  | 33 => ⟨S1024x1024, .f32⟩
  | 34 => ⟨S1024x1, .f32⟩
  | 35 => ⟨S1x1024, .f32⟩
  | 36 => ⟨S1024x1024, .f32⟩
  | 37 => ⟨S1024x1024, .f32⟩
  | 38 => ⟨S1024x1024, .f32⟩
  | 39 => ⟨S1024x1, .f32⟩
  | 40 => ⟨S1x1024, .f32⟩
  | 41 => ⟨S1024x1024, .f32⟩
  | 42 => ⟨S1024x1024, .f32⟩
  | 43 => ⟨S1024x1024, .f32⟩
  | 44 => ⟨S1024x1024, .f32⟩
  | 45 => ⟨S_, .f32⟩
  | 46 => ⟨S_, .f32⟩
  | 47 => ⟨S1024x1024, .f32⟩
  | 48 => ⟨S1024x1024, .f32⟩
  | 49 => ⟨S1024x1024, .f32⟩
  | 50 => ⟨S_, .f32⟩
  | 51 => ⟨S_, .f32⟩
  | 52 => ⟨S1024x1024, .f32⟩
  | 53 => ⟨S1024x1024, .f32⟩
  | 54 => ⟨S1024x1024, .f32⟩
  | 55 => ⟨S1024x1, .f32⟩
  | 56 => ⟨S1x1024, .f32⟩
  | 57 => ⟨S1024x1024, .f32⟩
  | 58 => ⟨S1024x1024, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S1024, .i32⟩
  | 66 => ⟨S_, .i1⟩
  | 67 => ⟨S1024, .i1⟩
  | 68 => ⟨S_, .i32⟩
  | 69 => ⟨S1024, .i32⟩
  | 70 => ⟨S1024x1024, .f32⟩
  | 71 => ⟨S1024, .i32⟩
  | 72 => ⟨S_, .i32⟩
  | 73 => ⟨S1024, .i1⟩
  | 74 => ⟨S_, .i32⟩
  | 75 => ⟨S_, .i1⟩
  | 76 => ⟨S1, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S1, .i32⟩
  | 84 => ⟨S1, .i32⟩
  | 85 => ⟨S_, .i32⟩
  | 86 => ⟨S1, .i32⟩
  | 87 => ⟨S1, .i1⟩
  | 88 => ⟨S1, .i1⟩
  | 89 => ⟨S1, .i1⟩
  | 90 => ⟨S_, .i1⟩
  | 91 => ⟨S_, .i1⟩
  | 92 => ⟨S1024, .f32⟩
  | 93 => ⟨S1024, .i1⟩
  | 94 => ⟨S_, .f32⟩
  | 95 => ⟨S1024, .f32⟩
  | 96 => ⟨S1024, .f32⟩
  | 97 => ⟨S_, .i32⟩
  | 98 => ⟨S_, .i1⟩
  | 99 => ⟨S_, .i32⟩
  | 100 => ⟨S_, .i32⟩
  | 101 => ⟨S_, .i32⟩
  | 102 => ⟨S1, .i32⟩
  | 103 => ⟨S1, .i32⟩
  | 104 => ⟨S_, .i32⟩
  | 105 => ⟨S1, .i32⟩
  | 106 => ⟨S1, .i1⟩
  | 107 => ⟨S1, .i1⟩
  | 108 => ⟨S1, .i1⟩
  | 109 => ⟨S_, .i1⟩
  | 110 => ⟨S_, .i1⟩
  | 111 => ⟨S_, .i1⟩
  | 112 => ⟨S_, .i1⟩
  | 113 => ⟨S_, .i1⟩
  | 114 => ⟨S_, .f32⟩
  | 115 => ⟨S1024, .f32⟩
  | 116 => ⟨S1024, .i1⟩
  | 117 => ⟨S1024, .i32⟩
  | 118 => ⟨S1024, .i1⟩
  | 119 => ⟨S1024, .i1⟩
  | 120 => ⟨S1024, .i1⟩
  | 121 => ⟨S1024, .i1⟩
  | 122 => ⟨S1024, .i1⟩
  | 123 => ⟨S1024, .i1⟩
  | 124 => ⟨S_, .i32⟩
  | 125 => ⟨S_, .i32⟩
  | 126 => ⟨S_, .f32⟩
  | 127 => ⟨S1024, .f32⟩
  | _ => ⟨S1x20736x8, .f32⟩

abbrev hbmTy0_2 (i : Nat) : BufTy := match i % 128 with
  | 0 => ⟨S1024, .i1⟩
  | 1 => ⟨S1024, .i1⟩
  | 2 => ⟨S_, .f32⟩
  | 3 => ⟨S1024, .f32⟩
  | 4 => ⟨S1024, .i1⟩
  | 5 => ⟨S1024, .i1⟩
  | 6 => ⟨S1024x1, .i1⟩
  | 7 => ⟨S1024x1, .f32⟩
  | 8 => ⟨S1024x1, .f32⟩
  | 9 => ⟨S1024x1, .f32⟩
  | 10 => ⟨S1024x7, .f32⟩
  | 11 => ⟨S_, .f32⟩
  | 12 => ⟨S_, .f32⟩
  | 13 => ⟨S1024x7, .i1⟩
  | 14 => ⟨S1024x7, .f32⟩
  | 15 => ⟨S1024x7, .f32⟩
  | _ => ⟨S1x20736x8, .f32⟩

abbrev hbmTy (i : Nat) : BufTy := match i / 128 with
  | 0 => hbmTy0_0 i
  | 1 => hbmTy0_1 i
  | 2 => hbmTy0_2 i
  | _ => ⟨S1x20736x8, .f32⟩

abbrev bufTy : (tb : Table) → Fin (tcTables nBuf tb) → BufTy
  | .hbm, ⟨i, _⟩ => hbmTy i
  | _, _ => ⟨S1x20736x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_4 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_5 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_6 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_7 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_call0_v0 : Ref sig .tc := ⟨.hbm, 83, rfl⟩
abbrev main_call0_cst : Ref sig .tc := ⟨.hbm, 84, rfl⟩
abbrev main_call0_c : Ref sig .tc := ⟨.hbm, 85, rfl⟩
abbrev main_call0_v1_0 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_call1_v0 : Ref sig .tc := ⟨.hbm, 99, rfl⟩
abbrev main_call1_v1_0 : Ref sig .tc := ⟨.hbm, 100, rfl⟩
abbrev main_v83 : Ref sig .tc := ⟨.hbm, 101, rfl⟩
abbrev main_v84 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_9 : Ref sig .tc := ⟨.hbm, 142, rfl⟩
abbrev main_call3_v0 : Ref sig .tc := ⟨.hbm, 143, rfl⟩
abbrev main_call3_v1 : Ref sig .tc := ⟨.hbm, 144, rfl⟩
abbrev main_v102 : Ref sig .tc := ⟨.hbm, 145, rfl⟩
abbrev main_v103 : Ref sig .tc := ⟨.hbm, 146, rfl⟩
abbrev main_cst_10 : Ref sig .tc := ⟨.hbm, 147, rfl⟩
abbrev main_call4_v0 : Ref sig .tc := ⟨.hbm, 148, rfl⟩
abbrev main_call4_v1 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_11 : Ref sig .tc := ⟨.hbm, 173, rfl⟩
abbrev main_call5_v0 : Ref sig .tc := ⟨.hbm, 174, rfl⟩
abbrev main_call5_v1 : Ref sig .tc := ⟨.hbm, 175, rfl⟩
abbrev main_v127 : Ref sig .tc := ⟨.hbm, 176, rfl⟩
abbrev main_v128 : Ref sig .tc := ⟨.hbm, 177, rfl⟩
abbrev main_cst_12 : Ref sig .tc := ⟨.hbm, 178, rfl⟩
abbrev main_call6_v0 : Ref sig .tc := ⟨.hbm, 179, rfl⟩
abbrev main_call6_v1 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_13 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_c : Ref sig .tc := ⟨.hbm, 194, rfl⟩
abbrev main_v141 : Ref sig .tc := ⟨.hbm, 195, rfl⟩
abbrev main_c_14 : Ref sig .tc := ⟨.hbm, 196, rfl⟩
abbrev main_v142_0 : Ref sig .tc := ⟨.hbm, 197, rfl⟩
abbrev main_v142_1 : Ref sig .tc := ⟨.hbm, 198, rfl⟩
abbrev main_v142_2 : Ref sig .tc := ⟨.hbm, 199, rfl⟩
abbrev main_v142_3 : Ref sig .tc := ⟨.hbm, 200, rfl⟩
abbrev main_v142_4 : Ref sig .tc := ⟨.hbm, 201, rfl⟩
abbrev main_while0c_c_22 : Ref sig .tc := ⟨.hbm, 202, rfl⟩
abbrev main_while0c_v155 : Ref sig .tc := ⟨.hbm, 203, rfl⟩
abbrev main_while0b_call7_v0 : Ref sig .tc := ⟨.hbm, 204, rfl⟩
abbrev main_while0b_v155 : Ref sig .tc := ⟨.hbm, 205, rfl⟩
abbrev main_while0b_call8_c : Ref sig .tc := ⟨.hbm, 206, rfl⟩
abbrev main_while0b_call8_v0 : Ref sig .tc := ⟨.hbm, 207, rfl⟩
abbrev main_while0b_call8_c_0 : Ref sig .tc := ⟨.hbm, 208, rfl⟩
abbrev main_while0b_call8_v1 : Ref sig .tc := ⟨.hbm, 209, rfl⟩
abbrev main_while0b_call8_v2 : Ref sig .tc := ⟨.hbm, 210, rfl⟩
abbrev main_while0b_call8_v3 : Ref sig .tc := ⟨.hbm, 211, rfl⟩
abbrev main_while0b_call8_c_1 : Ref sig .tc := ⟨.hbm, 212, rfl⟩
abbrev main_while0b_call8_c_2 : Ref sig .tc := ⟨.hbm, 213, rfl⟩
abbrev main_while0b_call8_v4 : Ref sig .tc := ⟨.hbm, 214, rfl⟩
abbrev main_while0b_call8_v5 : Ref sig .tc := ⟨.hbm, 215, rfl⟩
abbrev main_while0b_call8_v6 : Ref sig .tc := ⟨.hbm, 216, rfl⟩
abbrev main_while0b_call8_v7 : Ref sig .tc := ⟨.hbm, 217, rfl⟩
abbrev main_while0b_call8_c_3 : Ref sig .tc := ⟨.hbm, 218, rfl⟩
abbrev main_while0b_call8_v8 : Ref sig .tc := ⟨.hbm, 219, rfl⟩
abbrev main_while0b_call8_v9 : Ref sig .tc := ⟨.hbm, 220, rfl⟩
abbrev main_while0b_call8_v10 : Ref sig .tc := ⟨.hbm, 221, rfl⟩
abbrev main_while0b_call8_cst : Ref sig .tc := ⟨.hbm, 222, rfl⟩
abbrev main_while0b_call8_v11 : Ref sig .tc := ⟨.hbm, 223, rfl⟩
abbrev main_while0b_v156 : Ref sig .tc := ⟨.hbm, 224, rfl⟩
abbrev main_while0b_call9_c : Ref sig .tc := ⟨.hbm, 225, rfl⟩
abbrev main_while0b_call9_v0 : Ref sig .tc := ⟨.hbm, 226, rfl⟩
abbrev main_while0b_call9_c_0 : Ref sig .tc := ⟨.hbm, 227, rfl⟩
abbrev main_while0b_call9_v1 : Ref sig .tc := ⟨.hbm, 228, rfl⟩
abbrev main_while0b_call9_v2 : Ref sig .tc := ⟨.hbm, 229, rfl⟩
abbrev main_while0b_call9_v3 : Ref sig .tc := ⟨.hbm, 230, rfl⟩
abbrev main_while0b_call9_c_1 : Ref sig .tc := ⟨.hbm, 231, rfl⟩
abbrev main_while0b_call9_c_2 : Ref sig .tc := ⟨.hbm, 232, rfl⟩
abbrev main_while0b_call9_v4 : Ref sig .tc := ⟨.hbm, 233, rfl⟩
abbrev main_while0b_call9_v5 : Ref sig .tc := ⟨.hbm, 234, rfl⟩
abbrev main_while0b_call9_v6 : Ref sig .tc := ⟨.hbm, 235, rfl⟩
abbrev main_while0b_call9_v7 : Ref sig .tc := ⟨.hbm, 236, rfl⟩
abbrev main_while0b_call9_c_3 : Ref sig .tc := ⟨.hbm, 237, rfl⟩
abbrev main_while0b_call9_v8 : Ref sig .tc := ⟨.hbm, 238, rfl⟩
abbrev main_while0b_call9_v9 : Ref sig .tc := ⟨.hbm, 239, rfl⟩
abbrev main_while0b_call9_c_4 : Ref sig .tc := ⟨.hbm, 240, rfl⟩
abbrev main_while0b_v157 : Ref sig .tc := ⟨.hbm, 241, rfl⟩
abbrev main_while0b_cst_22 : Ref sig .tc := ⟨.hbm, 242, rfl⟩
abbrev main_while0b_v158 : Ref sig .tc := ⟨.hbm, 243, rfl⟩
abbrev main_while0b_v159 : Ref sig .tc := ⟨.hbm, 244, rfl⟩
abbrev main_while0b_v160 : Ref sig .tc := ⟨.hbm, 245, rfl⟩
abbrev main_while0b_v161 : Ref sig .tc := ⟨.hbm, 246, rfl⟩
abbrev main_while0b_v162 : Ref sig .tc := ⟨.hbm, 247, rfl⟩
abbrev main_while0b_v163 : Ref sig .tc := ⟨.hbm, 248, rfl⟩
abbrev main_while0b_v164 : Ref sig .tc := ⟨.hbm, 249, rfl⟩
abbrev main_while0b_v165 : Ref sig .tc := ⟨.hbm, 250, rfl⟩
abbrev main_while0b_v166 : Ref sig .tc := ⟨.hbm, 251, rfl⟩
abbrev main_while0b_c_23 : Ref sig .tc := ⟨.hbm, 252, rfl⟩
abbrev main_while0b_v167 : Ref sig .tc := ⟨.hbm, 253, rfl⟩
abbrev main_cst_15 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_cst_16 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_cst_17 : Ref sig .tc := ⟨.hbm, 267, rfl⟩
abbrev main_call10_v0 : Ref sig .tc := ⟨.hbm, 268, rfl⟩
abbrev main_call10_v1 : Ref sig .tc := ⟨.hbm, 269, rfl⟩
abbrev main_call10_v2 : Ref sig .tc := ⟨.hbm, 270, rfl⟩
abbrev main_v154 : Ref sig .tc := ⟨.hbm, 271, rfl⟩

abbrev nD : Nat := 1
abbrev τ : Topo := Topo.v7x

variable {F : FTy → Type} [FloatOps F]

abbrev main_while0_count : Scf.Loop 32 := ⟨0#32, 1024#32, 1#32⟩
-- ==== Proof.RefFrame.lean ====
/-
  The reference's frame: no operation of @main writes an argument, so at the end of the run both arguments hold what they
  held at the start.
-/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem

variable {F : FTy → Type} [FloatOps F]

/-- The references the first stretch after the loop writes. -/
abbrev post0_W : List (Ref sig .tc) := [main_cst_15, main_v143, main_v144, main_v145, main_cst_16, main_v146, main_v147,
  main_v148, main_v149, main_v150, main_v151, main_v152, main_v153, main_cst_17]
theorem post0_writes : (hostOps0_15 : List (HloOp τ sig (Elt F))).Forall fun op => op.writes ⊆ (post0_W.map (Proc.devRef (τ := τ) .tc)).toFinset :=
  StableHlo.forall_writes_sub_of_map rfl

/-- The references the last stretch writes. -/
abbrev post1_W : List (Ref sig .tc) := [main_call10_v0, main_call10_v1, main_call10_v2, main_v154]
theorem post1_writes : (hostOps0_16 : List (HloOp τ sig (Elt F))).Forall fun op => op.writes ⊆ (post1_W.map (Proc.devRef (τ := τ) .tc)).toFinset :=
  StableHlo.forall_writes_sub_of_map rfl

/-- A reference neither the condition nor the body writes holds at every trip what it held before the loop. -/
theorem atTrip_keep {r : Ref sig .tc} (W₀ : Dev nD → Valuation τ sig (Elt F)) (c : Dev nD)
    (hc : r ∉ condOps_W) (h0 : r ∉ while0Ops0_W) (h1 : r ∉ while0Ops0_1_W) (h2 : r ∉ while0Ops0_2_W) (h3 : r ∉ while0Ops0_3_W) :
    ∀ k, atTrip condOps bodyI W₀ k c (Proc.devRef .tc r) = W₀ c (Proc.devRef .tc r)
  | 0 => rfl
  | k + 1 => by
    rw [show atTrip condOps bodyI W₀ (k + 1) c = afterL bodyI (after condOps (atTrip condOps bodyI W₀ k c)) from rfl]
    simp only [afterL_cons, afterL_nil]
    rw [after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, atTrip_keep W₀ c hc h0 h1 h2 h3 k]

/-- The stretches before the loop leave a reference none of them writes. -/
theorem afterPre_keep {r : Ref sig .tc} (V : Valuation τ sig (Elt F))
    (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) (h9 : r ∉ hostOps0_9_W)
    (h10 : r ∉ hostOps0_10_W) (h11 : r ∉ hostOps0_11_W) (h12 : r ∉ hostOps0_12_W) (h13 : r ∉ hostOps0_13_W) (h14 : r ∉ hostOps0_14_W) :
    afterL preI V (Proc.devRef .tc r) = V (Proc.devRef .tc r) := by
  simp only [afterL_cons, afterL_nil]
  rw [after_of_writes_sub hostOps0_14 _ hostOps0_14_writes h14, after_of_writes_sub hostOps0_13 _ hostOps0_13_writes h13,
    after_of_writes_sub hostOps0_12 _ hostOps0_12_writes h12, after_of_writes_sub hostOps0_11 _ hostOps0_11_writes h11,
    after_of_writes_sub hostOps0_10 _ hostOps0_10_writes h10, after_of_writes_sub hostOps0_9 _ hostOps0_9_writes h9,
    after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The condition and the stretches after the loop leave a reference none of them writes. -/
theorem afterPost_keep {r : Ref sig .tc} (V : Valuation τ sig (Elt F)) (hc : r ∉ condOps_W) (h0 : r ∉ post0_W) (h1 : r ∉ post1_W) :
    afterL postI (after condOps V) (Proc.devRef .tc r) = V (Proc.devRef .tc r) := by
  simp only [afterL_cons, afterL_nil]
  rw [after_of_writes_sub hostOps0_16 _ post1_writes h1, after_of_writes_sub hostOps0_15 _ post0_writes h0,
    after_of_writes_sub condOps _ condOps_writes hc]

variable (m : (ℓ : Loc nD τ sig) → Buf (Elt F) ℓ) (ρ : Dev nD → PrngReg)

/-- Argument 0 ends as it was. -/
theorem final_arg0 (c : Dev nD) : finalContents condOps preI bodyI postI 1024 m c (Proc.devRef .tc main_arg0)
    = m ((c.tc : Thread nD τ).loc main_arg0) := by
  refine (afterPost_keep _ (by decide +kernel) (by decide +kernel) (by decide +kernel)).trans ?_
  refine (atTrip_keep _ c (by decide +kernel) (by decide +kernel) (by decide +kernel) (by decide +kernel) (by decide +kernel) 1024).trans ?_
  exact afterPre_keep _ (by decide +kernel) (by decide +kernel) (by decide +kernel) (by decide +kernel) (by decide +kernel)
    (by decide +kernel) (by decide +kernel) (by decide +kernel) (by decide +kernel) (by decide +kernel) (by decide +kernel)
    (by decide +kernel) (by decide +kernel) (by decide +kernel) (by decide +kernel)

/-- Argument 1 ends as it was. -/
theorem final_arg1 (c : Dev nD) : finalContents condOps preI bodyI postI 1024 m c (Proc.devRef .tc main_arg1)
    = m ((c.tc : Thread nD τ).loc main_arg1) := by
  refine (afterPost_keep _ (by decide +kernel) (by decide +kernel) (by decide +kernel)).trans ?_
  refine (atTrip_keep _ c (by decide +kernel) (by decide +kernel) (by decide +kernel) (by decide +kernel) (by decide +kernel) 1024).trans ?_
  exact afterPre_keep _ (by decide +kernel) (by decide +kernel) (by decide +kernel) (by decide +kernel) (by decide +kernel)
    (by decide +kernel) (by decide +kernel) (by decide +kernel) (by decide +kernel) (by decide +kernel) (by decide +kernel)
    (by decide +kernel) (by decide +kernel) (by decide +kernel) (by decide +kernel)

/-- The reference's run: its result at the fold, its arguments unchanged. -/
theorem run : θ_run (defs (F := F)) (onTc (τ := τ) (main (F := F))) ⟨m, fun _ => 0, ρ⟩
    (fun r => ∀ c : Dev nD,
      r.2.mem ((c.tc : Thread nD τ).loc main_v154) = finalContents condOps preI bodyI postI 1024 m c (Proc.devRef .tc main_v154)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨h c main_v154 (by decide +kernel), (h c main_arg0 (by decide +kernel)).trans (final_arg0 m c),
    (h c main_arg1 (by decide +kernel)).trans (final_arg1 m c)⟩) (run_fold m ρ)

/-- The reference terminates with its arguments unchanged and every counter at zero: it declares no semaphore. -/
theorem frame : Cert.quiescent_ReferenceIdeal := fun m ρ _ =>
  (θ_run _ _ _).mono (fun r h => ⟨fun c => (h c).2, Idealize.ShloMosaic.sem_eq_zero_of_no_sems (by decide) r.2⟩)
    (run (F := Ideal) m ρ)

end Cert.ReferenceIdeal.Value

end
-- ==== Proof.Nms.lean ====
/-
  Greedy suppression as a recursion over the boxes in score order, and the facts that let it be run block by block.
-/
module

public import Mathlib.Order.Basic
public import Mathlib.Tactic.Push

@[expose] public section

namespace Cert.Nms

/-- `alive S n k`: box `k` is still kept after the first `n` steps, where step `i` removes every later box that `S i`
    relates to box `i`, if box `i` is itself kept at that moment. -/
def alive (S : ℕ → ℕ → Prop) : ℕ → ℕ → Prop
  | 0, _ => True
  | n + 1, k => alive S n k ∧ ¬ (S n k ∧ n < k ∧ alive S n n)

variable {S : ℕ → ℕ → Prop}

theorem alive_succ (n k : ℕ) : alive S (n + 1) k ↔ alive S n k ∧ ¬ (S n k ∧ n < k ∧ alive S n n) := Iff.rfl

/-- `m` further steps at once: what each of them removes, told by the kept boxes at its own moment. -/
theorem alive_add (a m k : ℕ) :
    alive S (a + m) k ↔ alive S a k ∧ ∀ j < m, ¬ (S (a + j) k ∧ a + j < k ∧ alive S (a + j) (a + j)) := by
  induction m with
  | zero => simp
  | succ m ih =>
    rw [show a + (m + 1) = (a + m) + 1 from rfl, alive_succ, ih, and_assoc]
    refine and_congr_right fun _ => ⟨fun ⟨h, h'⟩ j hj => ?_, fun h => ⟨fun j hj => h j (by omega), h m (by omega)⟩⟩
    rcases Nat.lt_succ_iff_lt_or_eq.mp hj with hj | rfl
    · exact h j hj
    · exact h'

/-- A box's own step and the later ones leave it alone. -/
theorem alive_of_le {n k : ℕ} (h : k ≤ n) : alive S n k ↔ alive S k k := by
  obtain ⟨m, rfl⟩ := Nat.exists_eq_add_of_le h
  rw [alive_add]
  exact ⟨fun h => h.1, fun h => ⟨h, fun j _ => fun h' => absurd h'.2.1 (by omega)⟩⟩

/-- One block of `m` steps on a box behind the block: it goes exactly if a box of the block that the block keeps relates
    to it. -/
theorem alive_block (a m k : ℕ) (hk : a + m ≤ k) :
    alive S (a + m) k ↔ alive S a k ∧ ∀ j < m, ¬ (S (a + j) k ∧ alive S (a + m) (a + j)) := by
  rw [alive_add]
  refine and_congr_right fun _ => forall₂_congr fun j hj => not_congr (and_congr_right fun _ => ?_)
  rw [alive_of_le (show a + j ≤ a + m by omega)]
  exact ⟨fun h => h.2, fun h => ⟨by omega, h⟩⟩

/-- The recursion only looks at the relation from earlier boxes to later ones below a bound. -/
theorem alive_congr {S' : ℕ → ℕ → Prop} {N : ℕ} (h : ∀ i k, i < N → k < N → (S i k ↔ S' i k)) :
    ∀ n ≤ N, ∀ k < N, (alive S n k ↔ alive S' n k)
  | 0, _, _, _ => Iff.rfl
  | n + 1, hn, k, hk => by
    rw [alive_succ, alive_succ, alive_congr h n (by omega) k hk, alive_congr h n (by omega) n (by omega), h n k (by omega) hk]

end Cert.Nms

end
-- ==== Proof.KBlock.lean ====
/-
  One block of the kernel's suppression: the overlaps of the block's boxes with all boxes, one trip of the in-block loop, and
  the update of the whole row of keep flags by the block. Each is stated once and read at an index once.
-/
module

public import proofs.«01_k».proof.Proof.Gen.KernelIdeal.Skeleton
public import proofs.«01_k».proof.Proof.Nms
public import Idealize.ShloMosaic.Lib.Pointwise

@[expose] public section

set_option maxRecDepth 16384

noncomputable section

namespace Cert.KernelIdeal.Block

open Cert.KernelIdeal Cert.KernelIdeal.Gen
open Idealize.ShloMosaic Idealize.ShloMosaic.TcCoe

/-- The overlap threshold and the small constant of the quotient, as the words of both programs denote them. -/
def thr : EReal := Ideal.ofBits .f32 0x3E4CCCCD#32
def eps : EReal := Ideal.ofBits .f32 0x3089705F#32

/-- Overlap over union of two boxes given by corners and areas. -/
def iouE (x1 y1 x2 y2 a x1' y1' x2' y2' a' : EReal) : EReal :=
  Ideal.div (max 0 (min x2 x2' - max x1 x1') * max 0 (min y2 y2' - max y1 y1'))
    (a + a' - max 0 (min x2 x2' - max x1 x1') * max 0 (min y2 y2' - max y1 y1') + eps)

theorem iouE_comm (x1 y1 x2 y2 a x1' y1' x2' y2' a' : EReal) :
    iouE x1 y1 x2 y2 a x1' y1' x2' y2' a' = iouE x1' y1' x2' y2' a' x1 y1 x2 y2 a := by
  unfold iouE
  rw [min_comm x2, max_comm x1, min_comm y2, max_comm y1, add_comm a]

section Generic
variable {F : FTy → Type} [FloatOps F]

/-- The overlaps of 128 boxes given as columns with the 1024 boxes given as rows. -/
def iouBlk (x1 y1 x2 y2 ar : FVec F S1x1024 .f32) (u1 w1 u2 w2 ub : FVec F S128x1 .f32) : FVec F S128x1024 .f32 :=
  let row (v : FVec F S1x1024 .f32) : FVec F S128x1024 .f32 := broadcastTo S128x1024 v broadcasts_S1x1024_S128x1024
  let col (v : FVec F S128x1 .f32) : FVec F S128x1024 .f32 := broadcastTo S128x1024 v broadcasts_S128x1_S128x1024
  let zero : FVec F S128x1024 .f32 := broadcast S128x1024 (Scalar.ofBits .f32 0x00000000#32)
  let inter := mulf (maximumf zero (subf (minimumf (row x2) (col u2)) (maximumf (row x1) (col u1))))
    (maximumf zero (subf (minimumf (row y2) (col w2)) (maximumf (row y1) (col w1))))
  divf inter (addf (subf (addf (row ar) (col ub)) inter) (broadcast S128x1024 (Scalar.ofBits .f32 0x3089705F#32)))

/-- One trip of the loop inside a block: step `j` on the block's keep flags, `rows` the eight rows of overlaps holding row `j`. -/
def tripFn (lane : IVec S1x128 32) (sub : IVec S8x128 32) (j : BitVec 32) (rows : FVec F S8x128 .f32) (keep : FVec F S1x128 .f32) : FVec F S1x128 .f32 :=
  k0_pay61 lane keep j
    (shapeCast S1x128 (multiReduction .maximumf [0] S128
      (select (cmpi .eq sub (broadcast S8x128 (Scalar.select (Scalar.andi (Scalar.xori (Scalar.cmpi .slt (Scalar.remsi j 8#32) 0#32) (Scalar.cmpi .slt 8#32 0#32))
        (Scalar.cmpi .ne (Scalar.remsi j 8#32) 0#32)) (Scalar.addi (Scalar.remsi j 8#32) 8#32) (Scalar.remsi j 8#32)))) rows
        (broadcast S8x128 (Scalar.ofBits .f32 0x00000000#32))) 0xFF800000#32 reduces_S8x128_S128 (.inl rfl) rfl) shapeCasts_S128_S1x128)
    (select (cmpi .eq lane (broadcast S1x128 j)) keep (broadcast S1x128 (Scalar.ofBits .f32 0x00000000#32)))

/-- The block's update of all the keep flags: `kb` the block's own flags, `iou` its overlaps, `lo` the first lane behind it. -/
def crossFn (lane : IVec S1x1024 32) (l2 s2 : IVec S128x128 32) (lo : BitVec 32) (kb : FVec F S1x128 .f32) (iou : FVec F S128x1024 .f32)
    (keep : FVec F S1x1024 .f32) : FVec F S1x1024 .f32 :=
  let kept : FVec F S128x1 .f32 := shapeCast S128x1 (multiReduction .maximumf [1] S128
    (select (cmpi .eq l2 s2) (broadcastTo S128x128 (shapeCast S1x128 kb shapeCasts_S1x128_S1x128) broadcasts_S1x128_S128x128)
      (broadcast S128x128 (Scalar.ofBits .f32 0x00000000#32))) 0xFF800000#32 reduces_S128x128_S128 (.inl rfl) rfl) shapeCasts_S128_S128x1
  let hit : FVec F S128x1024 .f32 := select (cmpf .ogt iou (broadcast S128x1024 (Scalar.ofBits .f32 0x3E4CCCCD#32)))
    (broadcastTo S128x1024 (shapeCast S128x1 kept shapeCasts_S128x1_S128x1) broadcasts_S128x1_S128x1024)
    (broadcast S128x1024 (Scalar.ofBits .f32 0x00000000#32))
  let any : FVec F S1x1024 .f32 := shapeCast S1x1024
    (multiReduction .maximumf [0] S1024 hit 0xFF800000#32 reduces_S128x1024_S1024 (.inl rfl) rfl) shapeCasts_S1024_S1x1024
  select (andi (cmpf .ogt any (broadcast S1x1024 (Scalar.ofBits .f32 0x00000000#32))) (cmpi .sge lane (broadcast S1x1024 lo)))
    (broadcast S1x1024 (Scalar.ofBits .f32 0x00000000#32)) keep

end Generic

/-- The word of minus infinity is the least value, and the threshold is positive. -/
theorem bot_word : Ideal.ofBits .f32 0xFF800000#32 = ⊥ := by simp [Ideal.ofBits, Ideal.ieee]
theorem thr_pos : 0 < thr := by
  unfold thr
  simp [Ideal.ofBits, Ideal.ieee, -EReal.coe_mul]

/-! Comparisons of small numbers carried in words. -/

theorem cmpi_eq_nat {a b : ℕ} (ha : a < 2 ^ 31) (hb : b < 2 ^ 31) :
    IntOp.cmpi .eq (BitVec.ofNat 32 a) (BitVec.ofNat 32 b) = BitVec.ofBool (decide (a = b)) := by
  refine congrArg BitVec.ofBool (decide_eq_decide.mpr ?_)
  rw [← BitVec.toNat_inj, BitVec.toNat_ofNat, BitVec.toNat_ofNat]
  omega

theorem toInt_nat {a : ℕ} (ha : a < 2 ^ 31) : (BitVec.ofNat 32 a).toInt = a := by
  rw [BitVec.toInt_eq_toNat_cond, BitVec.toNat_ofNat]
  omega

theorem cmpi_sgt_nat {a b : ℕ} (ha : a < 2 ^ 31) (hb : b < 2 ^ 31) :
    IntOp.cmpi .sgt (BitVec.ofNat 32 a) (BitVec.ofNat 32 b) = BitVec.ofBool (decide (b < a)) := by
  refine congrArg BitVec.ofBool ?_
  show decide ((BitVec.ofNat 32 b).toInt < (BitVec.ofNat 32 a).toInt) = _
  rw [toInt_nat ha, toInt_nat hb]; exact decide_eq_decide.mpr Int.ofNat_lt

theorem cmpi_sge_nat {a b : ℕ} (ha : a < 2 ^ 31) (hb : b < 2 ^ 31) :
    IntOp.cmpi .sge (BitVec.ofNat 32 a) (BitVec.ofNat 32 b) = BitVec.ofBool (decide (b ≤ a)) := by
  refine congrArg BitVec.ofBool ?_
  show decide ((BitVec.ofNat 32 b).toInt ≤ (BitVec.ofNat 32 a).toInt) = _
  rw [toInt_nat ha, toInt_nat hb]; exact decide_eq_decide.mpr Int.ofNat_le

theorem andi_ofBool (p q : Bool) : IntOp.andi (BitVec.ofBool p) (BitVec.ofBool q) = BitVec.ofBool (p && q) := by
  cases p <;> cases q <;> rfl

/-- The remainder by 8 with the sign corrected, of a number that is not negative. -/
theorem mod8 : ∀ j : Fin 128, Scalar.select (Scalar.andi (Scalar.xori (Scalar.cmpi .slt (Scalar.remsi (BitVec.ofNat 32 j.val) 8#32) 0#32) (Scalar.cmpi .slt 8#32 0#32))
        (Scalar.cmpi .ne (Scalar.remsi (BitVec.ofNat 32 j.val) 8#32) 0#32)) (Scalar.addi (Scalar.remsi (BitVec.ofNat 32 j.val) 8#32) 8#32) (Scalar.remsi (BitVec.ofNat 32 j.val) 8#32)
      = BitVec.ofNat 32 (j.val % 8) := by decide +kernel

/-- Of a family that is zero off one place, the largest entry (over minus infinity) exceeds `c ≥ 0` exactly if that place does. -/
theorem lt_fold_one {n : ℕ} (c : EReal) (hc : 0 ≤ c) (v : Fin n → EReal) (j : Fin n) :
    c < Finset.fold max (⊥ : EReal) (fun x => if x = j then v x else 0) Finset.univ ↔ c < v j := by
  rw [Finset.lt_fold_max]
  constructor
  · rintro (h | ⟨x, -, h⟩)
    · exact absurd h not_lt_bot
    · split at h
      · next e => exact e ▸ h
      · exact absurd h (not_lt.mpr hc)
  · exact fun h => .inr ⟨j, Finset.mem_univ j, by rwa [if_pos rfl]⟩

theorem iouBlk_apply (x1 y1 x2 y2 ar : FVec Ideal S1x1024 .f32) (u1 w1 u2 w2 ub : FVec Ideal S128x1 .f32) (r : Fin 128) (k : Fin 1024) :
    iouBlk x1 y1 x2 y2 ar u1 w1 u2 w2 ub (ix2 r k)
      = iouE (x1 (ix2 0 k)) (y1 (ix2 0 k)) (x2 (ix2 0 k)) (y2 (ix2 0 k)) (ar (ix2 0 k))
        (u1 (ix2 r 0)) (w1 (ix2 r 0)) (u2 (ix2 r 0)) (w2 (ix2 r 0)) (ub (ix2 r 0)) := by
  pointwise [iouBlk, iouE, eps]

open Classical in
/-- A trip of the in-block loop at a lane: the flag is cleared where row `j` of the overlaps exceeds the threshold, behind
    lane `j`, if lane `j`'s own flag is positive. -/
theorem tripFn_apply (j : Fin 128) (rows : FVec Ideal S8x128 .f32) (keep : FVec Ideal S1x128 .f32) (k : Fin 128) :
    tripFn (iota .tc S1x128 32 [1] iota_S1x128_d1_w32) (iota .tc S8x128 32 [0] iota_S8x128_d0_w32) (BitVec.ofNat 32 j.val) rows keep (ix2 0 k)
      = if thr < rows (ix2 ⟨j.val % 8, Nat.mod_lt _ (by decide)⟩ k) ∧ j < k ∧ 0 < keep (ix2 0 j) then 0 else keep (ix2 0 k) := by
  unfold tripFn
  unfold_payloads
  pointwise
  rw [bot_word, mod8 j, cmpi_sgt_nat (by omega) (by omega)]
  rw [show (fun x : Fin 8 => Scalar.select (IntOp.cmpi .eq (BitVec.ofNat 32 x.val) (BitVec.ofNat 32 (j.val % 8))) (rows (ix2 x k)) (0 : EReal))
      = fun x => if x = ⟨j.val % 8, Nat.mod_lt _ (by decide)⟩ then rows (ix2 x k) else 0 from funext fun x => by
    rw [cmpi_eq_nat (by omega) (by omega), Scalar.select_ofBool]
    simp only [decide_eq_true_eq, Fin.ext_iff]]
  have h2 : ∀ c : EReal, 0 ≤ c → (c < Finset.fold max (⊥ : EReal) (fun x : Fin 1 × Fin 128 =>
      Scalar.select (IntOp.cmpi .eq (BitVec.ofNat 32 x.2.val) (BitVec.ofNat 32 j.val)) (keep (ix2 0 x.2)) (0 : EReal)) Finset.univ ↔ c < keep (ix2 0 j)) := by
    intro c hc
    rw [Finset.lt_fold_max]
    constructor
    · rintro (h | ⟨x, -, h⟩)
      · exact absurd h not_lt_bot
      · rw [cmpi_eq_nat (by omega) (by omega), Scalar.select_ofBool] at h
        split at h
        · next e => rw [decide_eq_true_eq] at e; rwa [Fin.ext e] at h
        · exact absurd h (not_lt.mpr hc)
    · exact fun h => .inr ⟨(0, j), Finset.mem_univ _, by rwa [cmpi_eq_nat (by omega) (by omega), Scalar.select_ofBool, if_pos (by simp)]⟩
  rw [andi_ofBool, andi_ofBool, Scalar.select_ofBool]
  refine if_congr ?_ rfl rfl
  simp only [Bool.and_eq_true, decide_eq_true_eq]
  rw [h2 0 le_rfl, and_assoc]
  exact and_congr (lt_fold_one _ thr_pos.le (fun x => rows (ix2 x k)) _) Iff.rfl

open Classical in
/-- The block's update at a lane: behind the block, the flag is cleared where some box of the block with a positive flag
    overlaps the lane's box above the threshold. -/
theorem crossFn_apply {lo : ℕ} (hlo : lo < 2 ^ 31) (kb : FVec Ideal S1x128 .f32) (iou : FVec Ideal S128x1024 .f32) (keep : FVec Ideal S1x1024 .f32) (k : Fin 1024) :
    crossFn (iota .tc S1x1024 32 [1] iota_S1x1024_d1_w32) (iota .tc S128x128 32 [1] iota_S128x128_d1_w32) (iota .tc S128x128 32 [0] iota_S128x128_d0_w32)
        (BitVec.ofNat 32 lo) kb iou keep (ix2 0 k)
      = if (∃ j : Fin 128, thr < iou (ix2 j k) ∧ 0 < kb (ix2 0 j)) ∧ lo ≤ k.val then 0 else keep (ix2 0 k) := by
  unfold crossFn
  pointwise
  rw [bot_word, cmpi_sge_nat (by omega) hlo, andi_ofBool, Scalar.select_ofBool]
  refine if_congr ?_ rfl rfl
  simp only [Bool.and_eq_true, decide_eq_true_eq]
  refine and_congr_left fun _ => ?_
  rw [Finset.lt_fold_max]
  have h2 : ∀ j : Fin 128, (0 < Finset.fold max (⊥ : EReal) (fun x : Fin 128 =>
      Scalar.select (IntOp.cmpi .eq (BitVec.ofNat 32 x.val) (BitVec.ofNat 32 j.val)) (kb (ix2 0 x)) (0 : EReal)) Finset.univ ↔ 0 < kb (ix2 0 j)) := by
    intro j
    rw [← lt_fold_one 0 le_rfl (fun x => kb (ix2 0 x)) j]
    refine iff_of_eq (congrArg (fun f => (0 : EReal) < Finset.fold max ⊥ f Finset.univ) (funext fun x => ?_))
    rw [cmpi_eq_nat (by omega) (by omega), Scalar.select_ofBool]
    simp only [decide_eq_true_eq, Fin.ext_iff]
  constructor
  · rintro (h | ⟨j, -, h⟩)
    · exact absurd h not_lt_bot
    · split at h
      · next e => exact ⟨j, e, (h2 j).mp h⟩
      · exact absurd h (lt_irrefl _)
  · rintro ⟨j, e, h⟩
    exact .inr ⟨j, Finset.mem_univ j, by rw [if_pos (show Ideal.ofBits .f32 1045220557#32 < iou (ix2 j k) from e)]; exact (h2 j).mpr h⟩

end Cert.KernelIdeal.Block

end
-- ==== Proof.KFold.lean ====
/-
  The kernel's keep flags through a block: if before block `b` the row of flags is the greedy recursion after `128 b` steps,
  then after the block's loop its own lanes, and after the block's update all lanes, are the recursion after `128 (b + 1)`.
-/
module

public import proofs.«01_k».proof.Proof.KBlock
public import Idealize.ShloMosaic.Lib.VecWindow
public import Idealize.ShloMosaic.Lib.WritesUnit

@[expose] public section

set_option maxRecDepth 16384

noncomputable section

namespace Cert.KernelIdeal.Block

open Cert.KernelIdeal Cert.KernelIdeal.Gen Cert.Nms
open Idealize.ShloMosaic Idealize.ShloMosaic.TcCoe

/-- The three position words the blocks compare with. -/
abbrev laneB : IVec S1x128 32 := iota .tc S1x128 32 [1] iota_S1x128_d1_w32
abbrev subB : IVec S8x128 32 := iota .tc S8x128 32 [0] iota_S8x128_d0_w32
abbrev laneK : IVec S1x1024 32 := iota .tc S1x1024 32 [1] iota_S1x1024_d1_w32
abbrev lane2 : IVec S128x128 32 := iota .tc S128x128 32 [1] iota_S128x128_d1_w32
abbrev sub2 : IVec S128x128 32 := iota .tc S128x128 32 [0] iota_S128x128_d0_w32

open Classical in
/-- The keep flag of box `k` after `n` steps, as the number the kernel holds. -/
def kf (S : ℕ → ℕ → Prop) (n k : ℕ) : EReal := if alive S n k then 1 else 0

variable {S : ℕ → ℕ → Prop}

theorem kf_pos (n k : ℕ) : 0 < kf S n k ↔ alive S n k := by
  unfold kf
  split
  · next h => exact iff_of_true zero_lt_one h
  · next h => exact iff_of_false (lt_irrefl _) h

theorem kf_zero (k : ℕ) : kf S 0 k = 1 := if_pos trivial

theorem kf_congr {n n' k k' : ℕ} (h : alive S n k ↔ alive S n' k') : kf S n k = kf S n' k' := by
  classical
  exact if_congr h rfl rfl

/-- A flag that is cleared on a condition and kept otherwise. -/
theorem kf_step {n n' k : ℕ} {P : Prop} [Decidable P] (h : alive S n' k ↔ alive S n k ∧ ¬ P) : (if P then 0 else kf S n k) = kf S n' k := by
  classical
  unfold kf
  by_cases hp : P
  · rw [if_pos hp, if_neg (fun h' => (h.mp h').2 hp)]
  · rw [if_neg hp]; exact if_congr ⟨fun a => h.mpr ⟨a, hp⟩, fun a => (h.mp a).1⟩ rfl rfl

/-- The loop inside block `b`. -/
theorem loop_flags {b : ℕ} (hb : b < 8) (iou : FVec Ideal S128x1024 .f32)
    (hS : ∀ (r : Fin 128) (k : Fin 1024), thr < iou (ix2 r k) ↔ S (128 * b + r.val) k.val)
    (st : ℕ → FVec Ideal S1x128 .f32) (rows : Fin 128 → FVec Ideal S8x128 .f32)
    (h0 : ∀ l : Fin 128, st 0 (ix2 0 l) = kf S (128 * b) (128 * b + l.val))
    (hs : ∀ j : Fin 128, st (j.val + 1) = tripFn laneB subB (BitVec.ofNat 32 j.val) (rows j) (st j.val))
    (hr : ∀ (j : Fin 128) (x : Fin 8) (l : Fin 128),
      rows j (ix2 x l) = iou (ix2 ⟨j.val / 8 * 8 + x.val, by omega⟩ ⟨128 * b + l.val, by omega⟩)) :
    ∀ n, n ≤ 128 → ∀ l : Fin 128, st n (ix2 0 l) = kf S (128 * b + n) (128 * b + l.val)
  | 0, _, l => h0 l
  | n + 1, hn, l => by
    have ih := loop_flags hb iou hS st rows h0 hs hr n (by omega)
    rw [hs ⟨n, by omega⟩, tripFn_apply]
    rw [show st (⟨n, by omega⟩ : Fin 128).val (ix2 0 l) = kf S (128 * b + n) (128 * b + l.val) from ih l]
    refine kf_step ?_
    rw [hr, hS, ih, kf_pos]
    rw [show 128 * b + (n + 1) = 128 * b + n + 1 from rfl, alive_succ]
    refine and_congr_right fun _ => not_congr (and_congr ?_ (and_congr_left fun _ => ?_))
    · rw [show 128 * b + (n / 8 * 8 + n % 8) = 128 * b + n by omega]
    · rw [Fin.lt_def]; show _ ↔ n < l.val; omega

variable {v7 : View sig .tc .vmem S1x1024 .f32} {f7 : v7.ty.Contents (Elt Ideal)}
  {v6 : View sig .tc .vmem S128x1024 .f32} {f6 : v6.ty.Contents (Elt Ideal)}

/-- The row of flags holds the recursion after `n` steps. -/
def Holds (v : View sig .tc .vmem S1x1024 .f32) (f : v.ty.Contents (Elt Ideal)) (S : ℕ → ℕ → Prop) (n : ℕ)
    (L : List (View.Piece (Elt Ideal) S1x1024 .f32)) : Prop :=
  ∀ k : Fin 1024, v.read (Elt Ideal) (v.writes (Elt Ideal) f L) (ix2 0 k) = kf S n k.val

/-- A load of part of a rank-2 view at an index. -/
theorem readAt_ix2 {n0 n1 m0 m1 : ℕ} (v : View sig .tc .vmem ⟨2, ![n0, n1]⟩ .f32) (f : v.ty.Contents (Elt Ideal)) {off : Fin 2 → ℕ} {o0 o1 : ℕ}
    (ho : off = ![o0, o1]) (inb : ∀ a, off a + (⟨2, ![m0, m1]⟩ : Shape).size a ≤ (⟨2, ![n0, n1]⟩ : Shape).size a) (x : Fin m0) (y : Fin m1)
    (hx : o0 + x.val < n0) (hy : o1 + y.val < n1) :
    v.readAt (Elt Ideal) (Rect.unit (s := ⟨2, ![n0, n1]⟩) off (⟨2, ![m0, m1]⟩ : Shape).size inb).toLoadRect f (ix2 x y)
      = v.read (Elt Ideal) f (ix2 ⟨o0 + x.val, hx⟩ ⟨o1 + y.val, hy⟩) := by
  subst ho
  rw [View.readAt_apply]
  refine congrArg (v.read (Elt Ideal) f) (funext fun a => Fin.ext ?_)
  match a with
  | ⟨0, _⟩ => show o0 + 1 * x.val = o0 + x.val; omega
  | ⟨1, _⟩ => show o1 + 1 * y.val = o1 + y.val; omega

section Step

variable {b : ℕ} (hb : b < 8) {L : List (View.Piece (Elt Ideal) S1x1024 .f32)} (hL : Holds v7 f7 S (128 * b) L)
  {off : Fin 2 → ℕ} (hoff : off = ![0, 128 * b]) (inb : ∀ a, off a + S1x128.size a ≤ S1x1024.size a)

include hb hL hoff in
/-- After the partial store of the block's flags: the block's lanes are at its end, the others where they were. -/
theorem read_put (pk : FVec Ideal S1x128 .f32) (hpk : ∀ l : Fin 128, pk (ix2 0 l) = kf S (128 * b + 128) (128 * b + l.val)) (k : Fin 1024) :
    v7.read (Elt Ideal) (v7.writes (Elt Ideal) f7 (⟨Rect.unit (s := S1x1024) off S1x128.size inb, pk⟩ :: L)) (ix2 0 k)
      = if 128 * b ≤ k.val ∧ k.val < 128 * b + 128 then kf S (128 * b + 128) k.val else kf S (128 * b) k.val := by
  split
  · next h =>
    rw [View.read_writes_cons_unit_of_mem v7 f7 inb pk L (ix2 0 k) (ix2 (0 : Fin 1) (⟨k.val - 128 * b, by omega⟩ : Fin 128)) hoff
      (fun a => match a with
        | ⟨0, _⟩ => by show (0 : ℕ) = 0 + 0; rfl
        | ⟨1, _⟩ => by show k.val = 128 * b + (k.val - 128 * b); omega)]
    rw [hpk]
    refine congrArg (kf S _) ?_
    show 128 * b + (k.val - 128 * b) = k.val
    omega
  · next h =>
    rw [View.read_writes_cons_unit_of_not_mem v7 f7 inb pk L (ix2 0 k) hoff 1 (by
      show k.val < 128 * b ∨ 128 * b + 128 ≤ k.val
      omega)]
    exact hL k

include hb in
/-- After the block's update the whole row is at the block's end. -/
theorem holds_cross (hb7 : 128 * b + 128 < 2 ^ 31) {P : List (View.Piece (Elt Ideal) S1x1024 .f32)}
    (hP : ∀ k : Fin 1024, v7.read (Elt Ideal) (v7.writes (Elt Ideal) f7 P) (ix2 0 k)
      = if 128 * b ≤ k.val ∧ k.val < 128 * b + 128 then kf S (128 * b + 128) k.val else kf S (128 * b) k.val)
    (kb : FVec Ideal S1x128 .f32) (hkb : ∀ l : Fin 128, kb (ix2 0 l) = kf S (128 * b + 128) (128 * b + l.val))
    (iou : FVec Ideal S128x1024 .f32) (hS : ∀ (r : Fin 128) (k : Fin 1024), thr < iou (ix2 r k) ↔ S (128 * b + r.val) k.val)
    (keep : FVec Ideal S1x1024 .f32) (hkeep : keep = v7.read (Elt Ideal) (v7.writes (Elt Ideal) f7 P))
    (lo : BitVec 32) (hlo : lo = BitVec.ofNat 32 (128 * b + 128)) (k : Fin 1024) :
    crossFn laneK lane2 sub2 lo kb iou keep (ix2 0 k) = kf S (128 * (b + 1)) k.val := by
  classical
  subst hkeep hlo
  rw [crossFn_apply hb7, hP, show 128 * (b + 1) = 128 * b + 128 from rfl]
  simp only [hS, hkb, kf_pos]
  by_cases hk : 128 * b + 128 ≤ k.val
  · rw [if_neg (show ¬ (128 * b ≤ k.val ∧ k.val < 128 * b + 128) by omega)]
    refine kf_step ?_
    rw [alive_block _ _ _ hk]
    refine and_congr_right fun _ => ⟨fun h => fun ⟨⟨j, h1, h2⟩, _⟩ => h j.val j.isLt ⟨h1, h2⟩, fun h j hj h' => h ⟨⟨⟨j, hj⟩, h'⟩, hk⟩⟩
  · rw [if_neg (fun h => hk h.2)]
    split
    · rfl
    · next h => exact kf_congr (by rw [alive_of_le (show k.val ≤ 128 * b by omega), alive_of_le (show k.val ≤ 128 * b + 128 by omega)])

/-- A store of the whole row of what is worth the recursion. -/
theorem holds_full {n : ℕ} (P : List (View.Piece (Elt Ideal) S1x1024 .f32)) {o : Fin 2 → ℕ} (ib : ∀ a, o a + S1x1024.size a ≤ S1x1024.size a)
    (w : FVec Ideal S1x1024 .f32) (hw : ∀ k : Fin 1024, w (ix2 0 k) = kf S n k.val) :
    Holds v7 f7 S n (⟨Rect.unit (s := S1x1024) o S1x1024.size ib, w⟩ :: P) := by
  intro k
  rw [View.read_writes_full]
  exact hw k

include hb hL hoff in
/-- What the block's loop starts from. -/
theorem init_flags (l : Fin 128) : v7.readAt (Elt Ideal) (Rect.unit (s := S1x1024) off S1x128.size inb).toLoadRect (v7.writes (Elt Ideal) f7 L) (ix2 0 l)
    = kf S (128 * b) (128 * b + l.val) := by
  rw [readAt_ix2 v7 _ hoff inb 0 l (by decide) (by omega)]
  exact hL ⟨128 * b + l.val, by omega⟩

end Step

end Cert.KernelIdeal.Block

end
-- ==== Proof.Det.lean ====
/-
  What one candidate box is, as plain formulas of its row of eight predictions and its anchor: corners, area, scores, and the
  overlap relation the suppression uses.
-/
module

public import proofs.«01_k».proof.Proof.KBlock

@[expose] public section

set_option maxRecDepth 16384

noncomputable section

namespace Cert.Det

open Idealize.ShloMosaic Cert.KernelIdeal.Block Cert.Nms

/-- One half. -/
def half : EReal := Ideal.ofBits .f32 0x3F000000#32

/-- The low and the high side of a box along one axis: anchor centre `a`, anchor size `s`, predicted shift `d` and log-size `w`. -/
def side₁ (a s d w : EReal) : EReal := a + s * d - half * (s * Ideal.exp w)
def side₂ (a s d w : EReal) : EReal := a + s * d + half * (s * Ideal.exp w)

section
variable (g : Fin 8 → EReal) (a : Fin 4 → EReal)

/-- The corners. -/
def bx1 : EReal := side₁ (a 0) (a 2) (g 4) (g 6)
def by1 : EReal := side₁ (a 1) (a 3) (g 5) (g 7)
def bx2 : EReal := side₂ (a 0) (a 2) (g 4) (g 6)
def by2 : EReal := side₂ (a 1) (a 3) (g 5) (g 7)

/-- The area. -/
def barea : EReal := max 0 (bx2 g a - bx1 g a) * max 0 (by2 g a - by1 g a)

/-- The largest class logit, and the class probabilities. -/
def top3 : EReal := max (g 0) (max (g 1) (g 2))
def prob (i : Fin 8) : EReal :=
  Ideal.div (Ideal.exp (g i - top3 g)) (Ideal.exp (g 0 - top3 g) + Ideal.exp (g 1 - top3 g) + Ideal.exp (g 2 - top3 g))

/-- The class score, the class number, the objectness. -/
def score : EReal := max (prob g 0) (max (prob g 1) (prob g 2))

open Classical in
def cls : EReal := if max (prob g 0) (prob g 1) < prob g 2 then Ideal.ofBits .f32 0x40000000#32 else if prob g 0 < prob g 1 then 1 else 0

def obj : EReal := Ideal.logistic (g 3)

/-- The seven numbers reported of a box. -/
def field : Fin 7 → EReal := ![bx1 g a, by1 g a, bx2 g a, by2 g a, obj g, cls g, score g]

end

/-- The overlap of two boxes. -/
def overlap (g : Fin 8 → EReal) (a : Fin 4 → EReal) (g' : Fin 8 → EReal) (a' : Fin 4 → EReal) : EReal :=
  iouE (bx1 g a) (by1 g a) (bx2 g a) (by2 g a) (barea g a) (bx1 g' a') (by1 g' a') (bx2 g' a') (by2 g' a') (barea g' a')

/-- Box `i` is one that would suppress box `k`. -/
def Over (G : ℕ → Fin 8 → EReal) (A : ℕ → Fin 4 → EReal) (i k : ℕ) : Prop := thr < overlap (G k) (A k) (G i) (A i)

open Classical in
/-- The result: field `j` of the `k`-th candidate where it survives the suppression and both scores exceed one half, else zero. -/
def result (G : ℕ → Fin 8 → EReal) (A : ℕ → Fin 4 → EReal) (k : ℕ) (j : Fin 7) : EReal :=
  if alive (Over G A) 1024 k ∧ half < obj (G k) ∧ half < score (G k) then field (G k) (A k) j else 0

end Cert.Det

end
-- ==== Proof.KWords.lean ====
/-
  The kernel's per-box numbers, read off its loads: as rows (one lane per box) and as columns (one sublane per box).
-/
module

public import proofs.«01_k».proof.Proof.KFold
public import proofs.«01_k».proof.Proof.Det
public import proofs.«01_k».proof.Proof.Gen.KernelIdeal.Frame

@[expose] public section

set_option maxRecDepth 16384

noncomputable section

namespace Cert.KernelIdeal.Block

open Cert.KernelIdeal Cert.KernelIdeal.Gen Cert.Nms Cert.Det
open Idealize.ShloMosaic Idealize.ShloMosaic.TcCoe

/-- A load of part of an argument, at an index. -/
theorem ld_unread {n0 n1 m0 m1 : ℕ} {m : Memref sig .tc .vmem ⟨2, ![n0, n1]⟩ .f32} (h : m.IsWhole) (x : Vec Ideal ⟨2, ![n0, n1]⟩ .f32)
    {o0 o1 : ℕ} (inb : ∀ a, ![o0, o1] a + ![m0, m1] a ≤ ![n0, n1] a) (i : Fin m0) (j : Fin m1) :
    m.view.readAt (Elt Ideal) (Rect.unit (s := ⟨2, ![n0, n1]⟩) ![o0, o1] ![m0, m1] inb).toLoadRect (h.unread x) (ix2 i j)
      = x (ix2 ⟨o0 + i.val, lt_of_lt_of_le (Nat.add_lt_add_left i.isLt o0) (inb 0)⟩
          ⟨o1 + j.val, lt_of_lt_of_le (Nat.add_lt_add_left j.isLt o1) (inb 1)⟩) := by
  refine (readAt_ix2 m.view _ rfl inb i j (lt_of_lt_of_le (Nat.add_lt_add_left i.isLt o0) (inb 0))
    (lt_of_lt_of_le (Nat.add_lt_add_left j.isLt o1) (inb 1))).trans ?_
  rw [h.read_unread]

variable (c : Dev nD) (arg0 : Memref sig .tc .vmem S1024x8 .f32) (harg0 : arg0.IsWhole) (arg1 : Memref sig .tc .vmem S1024x4 .f32) (harg1 : arg1.IsWhole)
  (arg2 : Memref sig .tc .vmem S8x1024 .f32) (harg2 : arg2.IsWhole) (arg3 : Memref sig .tc .vmem S4x1024 .f32) (harg3 : arg3.IsWhole)
  (arg5 : Memref sig .tc .vmem S1024x8 .f32)
  (x0 : Vec Ideal S1024x8 .f32) (x1 : Vec Ideal S1024x4 .f32) (x2 : Vec Ideal S8x1024 .f32) (x3 : Vec Ideal S4x1024 .f32)
  (G : ℕ → Fin 8 → EReal) (A : ℕ → Fin 4 → EReal)

section Rows
variable (h2 : ∀ (i : Fin 8) (k : Fin 1024), x2 (ix2 i k) = G k.val i) (h3 : ∀ (i : Fin 4) (k : Fin 1024), x3 (ix2 i k) = A k.val i) (k : Fin 1024)

include h2 h3

theorem row_x1 : kernelRun0_A.sl.r_9 c arg2 harg2 arg3 harg3 x2 x3 (ix2 0 k) = bx1 (G k.val) (A k.val) := by
  unfold kernelRun0_A.sl.r_9 kernelRun0_A.sl.r_8
  unfold_payloads
  pointwise
  simp only [ld_unread, h2, h3, Nat.zero_add]
  rfl

theorem row_y1 : kernelRun0_A.sl.r_10 c arg2 harg2 arg3 harg3 x2 x3 (ix2 0 k) = by1 (G k.val) (A k.val) := by
  unfold kernelRun0_A.sl.r_10
  unfold_payloads
  pointwise
  simp only [ld_unread, h2, h3, Nat.zero_add]
  rfl

theorem row_x2 : kernelRun0_A.sl.r_11 c arg2 harg2 arg3 harg3 x2 x3 (ix2 0 k) = bx2 (G k.val) (A k.val) := by
  unfold kernelRun0_A.sl.r_11 kernelRun0_A.sl.r_8
  unfold_payloads
  pointwise
  simp only [ld_unread, h2, h3, Nat.zero_add]
  rfl

theorem row_y2 : kernelRun0_A.sl.r_12 c arg2 harg2 arg3 harg3 x2 x3 (ix2 0 k) = by2 (G k.val) (A k.val) := by
  unfold kernelRun0_A.sl.r_12
  unfold_payloads
  pointwise
  simp only [ld_unread, h2, h3, Nat.zero_add]
  rfl

theorem row_area : kernelRun0_A.sl.r_15 c arg2 harg2 arg3 harg3 x2 x3 (ix2 0 k) = barea (G k.val) (A k.val) := by
  unfold kernelRun0_A.sl.r_15 kernelRun0_A.sl.r_13 kernelRun0_A.sl.r_14 kernelRun0_A.sl.r_8
  unfold_payloads
  pointwise
  simp only [ld_unread, h2, h3, Nat.zero_add]
  rfl

omit h3 in
theorem row_score : kernelRun0_A.sl.r_5 c arg2 harg2 x2 (ix2 0 k) = score (G k.val) := by
  unfold kernelRun0_A.sl.r_5
  unfold_payloads
  pointwise
  simp only [ld_unread, h2, Nat.zero_add]
  rfl

omit h3 in
theorem row_cls : kernelRun0_A.sl.r_6 c arg2 harg2 x2 (ix2 0 k) = cls (G k.val) := by
  unfold kernelRun0_A.sl.r_6
  unfold_payloads
  pointwise
  simp only [ld_unread, h2, Nat.zero_add, Scalar.select_ofBool]
  rfl

omit h3 in
theorem row_obj : kernelRun0_A.sl.r_7 c arg2 harg2 x2 (ix2 0 k) = obj (G k.val) := by
  unfold kernelRun0_A.sl.r_7
  unfold_payloads
  pointwise
  simp only [ld_unread, h2, Nat.zero_add]
  rfl

end Rows

section Cols
variable (h0 : ∀ (k : Fin 1024) (i : Fin 8), x0 (ix2 k i) = G k.val i) (h1 : ∀ (k : Fin 1024) (i : Fin 4), x1 (ix2 k i) = A k.val i)

/-- A column load of 128 boxes, at a box. -/
theorem col_read {o0 o1 : ℕ} (inb : ∀ a, ![o0, o1] a + S128x1.size a ≤ S1024x8.size a) (r : Fin 128) (h0 : o0 + r.val < 1024) (h1 : o1 < 8) :
    arg5.view.readCov (kernelRun0_A.sl.HS0_1 c arg0 harg0 arg1 harg1 x0 x1) (Rect.unit (s := S1024x8) ![o0, o1] S128x1.size inb).toLoadRect (ix2 r 0)
      = k0_pay29 (kernelRun0_A.sl.r c arg0 harg0 arg1 harg1 x0 x1) (kernelRun0_A.sl.r_1 c arg0 harg0 arg1 harg1 x0 x1)
          (kernelRun0_A.sl.r_2 c arg0 harg0 arg1 harg1 x0 x1) (kernelRun0_A.sl.r_3 c arg0 harg0 arg1 harg1 x0 x1)
          (kernelRun0_A.sl.r_4 c arg0 harg0 arg1 harg1 x0 x1) (ix2 ⟨o0 + r.val, h0⟩ ⟨o1, h1⟩) := by
  unfold kernelRun0_A.sl.HS0_1
  refine (readAt_ix2 (n0 := 1024) (n1 := 8) arg5.view _ rfl inb r 0 h0 h1).trans ?_
  rw [View.read_writes_full]
  rfl

include h0 h1

/-- The five columns. -/
theorem col_val (k : Fin 1024) (j : Fin 5) :
    k0_pay29 (kernelRun0_A.sl.r c arg0 harg0 arg1 harg1 x0 x1) (kernelRun0_A.sl.r_1 c arg0 harg0 arg1 harg1 x0 x1)
          (kernelRun0_A.sl.r_2 c arg0 harg0 arg1 harg1 x0 x1) (kernelRun0_A.sl.r_3 c arg0 harg0 arg1 harg1 x0 x1)
          (kernelRun0_A.sl.r_4 c arg0 harg0 arg1 harg1 x0 x1) (ix2 k ⟨j.val, by omega⟩)
      = ![bx1 (G k.val) (A k.val), by1 (G k.val) (A k.val), bx2 (G k.val) (A k.val), by2 (G k.val) (A k.val), barea (G k.val) (A k.val)] j := by
  unfold kernelRun0_A.sl.r kernelRun0_A.sl.r_1 kernelRun0_A.sl.r_2 kernelRun0_A.sl.r_3 kernelRun0_A.sl.r_4
  unfold_payloads
  fin_cases j
  all_goals
    pointwise
    simp only [ld_unread, h0, h1, Nat.zero_add]
    rfl

/-- A column load is the boxes' numbers. -/
theorem col (b : ℕ) (j : Fin 5) {off : Fin 2 → ℕ} (ho : off = ![128 * b, j.val]) (inb : ∀ a, off a + S128x1.size a ≤ S1024x8.size a) (r : Fin 128)
    (hb : 128 * b + r.val < 1024) :
    arg5.view.readCov (kernelRun0_A.sl.HS0_1 c arg0 harg0 arg1 harg1 x0 x1) (Rect.unit (s := S1024x8) off S128x1.size inb).toLoadRect (ix2 r 0)
      = ![bx1 (G (128 * b + r.val)) (A (128 * b + r.val)), by1 (G (128 * b + r.val)) (A (128 * b + r.val)), bx2 (G (128 * b + r.val)) (A (128 * b + r.val)),
          by2 (G (128 * b + r.val)) (A (128 * b + r.val)), barea (G (128 * b + r.val)) (A (128 * b + r.val))] j := by
  subst ho
  rw [col_read c arg0 harg0 arg1 harg1 arg5 x0 x1 inb r hb (by omega)]
  exact col_val c arg0 harg0 arg1 harg1 x0 x1 G A h0 h1 ⟨128 * b + r.val, hb⟩ j

end Cols

end Cert.KernelIdeal.Block

end
-- ==== Proof.KRun.lean ====
/-
  One block of the kernel, for any block: from the row of flags before it, its loop leaves the block's own flags, and the store of
  these followed by the update leaves the row of flags behind it.
-/
module

public import proofs.«01_k».proof.Proof.KFold
public import proofs.«01_k».proof.Proof.Det

@[expose] public section

set_option maxRecDepth 16384

noncomputable section

namespace Cert.KernelIdeal.Block

open Cert.KernelIdeal Cert.KernelIdeal.Gen Cert.Nms Cert.Det
open Idealize.ShloMosaic Idealize.ShloMosaic.TcCoe

/-- The counter of a loop from 0 by 1, as a word. -/
theorem iv_nat (k : ℕ) : Scf.iv 0#32 1#32 k = BitVec.ofNat 32 k := by
  unfold Scf.iv
  rw [BitVec.mul_one, BitVec.zero_add]

variable {S : ℕ → ℕ → Prop} {v7 : View sig .tc .vmem S1x1024 .f32} {f7 : v7.ty.Contents (Elt Ideal)}
  {v6 : View sig .tc .vmem S128x1024 .f32} {X6 : v6.ty.Contents (Elt Ideal)}
  (b : ℕ) (hb : b < 8) {L : List (View.Piece (Elt Ideal) S1x1024 .f32)} (hL : Holds v7 f7 S (128 * b) L)
  {off : Fin 2 → ℕ} (hoff : off = ![0, 128 * b]) {inb : ∀ a, off a + S1x128.size a ≤ S1x1024.size a}
  (hX : ∀ (r : Fin 128) (k : Fin 1024), thr < v6.read (Elt Ideal) X6 (ix2 r k) ↔ S (128 * b + r.val) k.val)
  {N : ℕ} (hT : N = 128) {offN : Fin N → Fin 2 → ℕ} (hoffN : ∀ j : Fin N, offN j = ![j.val / 8 * 8, 128 * b])
  {inbN : ∀ j : Fin N, ∀ a, offN j a + S8x128.size a ≤ S128x1024.size a}
  (st : Vec Ideal S1x128 .f32 → ℕ → Vec Ideal S1x128 .f32)
  (hz : ∀ init, st init 0 = init)
  (hs : ∀ init (j : Fin N), st init (j.val + 1) = tripFn (F := Ideal) laneB subB (Scf.iv 0#32 1#32 j.val)
    (v6.readAt (Elt Ideal) (Rect.unit (s := S128x1024) (offN j) S8x128.size (inbN j)).toLoadRect X6) (st init j.val))

include hb hL hoff hX hT hoffN hz hs

/-- The block's own flags after its loop. -/
theorem block_loop (l : Fin 128) :
    st (v7.readAt (Elt Ideal) (Rect.unit (s := S1x1024) off S1x128.size inb).toLoadRect (v7.writes (Elt Ideal) f7 L)) N (ix2 0 l)
      = kf S (128 * b + 128) (128 * b + l.val) := by
  subst hT
  refine loop_flags hb (v6.read (Elt Ideal) X6) hX _
    (fun j => v6.readAt (Elt Ideal) (Rect.unit (s := S128x1024) (offN j) S8x128.size (inbN j)).toLoadRect X6) ?_ ?_ ?_ 128 le_rfl l
  · intro l
    rw [hz]
    exact init_flags hb hL hoff inb l
  · intro j
    rw [hs, iv_nat]
  · intro j x l
    exact readAt_ix2 v6 X6 (hoffN j) (inbN j) x l (by omega) (by omega)

/-- The row of flags after the block's store and update. -/
theorem block_holds {n : ℕ} (hn : n = N) (sc : S1x128.ShapeCasts S1x128) (scK : S1x1024.ShapeCasts S1x1024) {lo : BitVec 32} (hlo : lo = BitVec.ofNat 32 (128 * b + 128))
    {o : Fin 2 → ℕ} (ho : o = ![0, 0]) (io : ∀ a, o a + S1x1024.size a ≤ S1x1024.size a) {o6 : Fin 2 → ℕ} (ho6 : o6 = ![0, 0]) (io6 : ∀ a, o6 a + S128x1024.size a ≤ S128x1024.size a)
    {o' : Fin 2 → ℕ} (io' : ∀ a, o' a + S1x1024.size a ≤ S1x1024.size a) {m : ℕ} (hm : m = 128 * (b + 1))
    {init : Vec Ideal S1x128 .f32} (hi : init = v7.readAt (Elt Ideal) (Rect.unit (s := S1x1024) off S1x128.size inb).toLoadRect (v7.writes (Elt Ideal) f7 L))
    {kb : Vec Ideal S1x128 .f32} (hkb : kb = st init n)
    {iou : Vec Ideal S128x1024 .f32} (hiou : iou = v6.readAt (Elt Ideal) (Rect.unit (s := S128x1024) o6 S128x1024.size io6).toLoadRect X6)
    {keep : Vec Ideal S1x1024 .f32} (hk : keep = v7.readAt (Elt Ideal) (Rect.unit (s := S1x1024) o S1x1024.size io).toLoadRect
      (v7.writes (Elt Ideal) f7 (⟨Rect.unit (s := S1x1024) off S1x128.size inb, shapeCast S1x128 kb sc⟩ :: L))) :
    Holds v7 f7 S m (⟨Rect.unit (s := S1x1024) o' S1x1024.size io', shapeCast S1x1024 (crossFn (F := Ideal) laneK lane2 sub2 lo kb iou keep : Vec Ideal S1x1024 .f32) scK⟩
      :: ⟨Rect.unit (s := S1x1024) off S1x128.size inb, shapeCast S1x128 kb sc⟩ :: L) := by
  subst hn hkb hi hm
  rw [shapeCast_self (s := S1x128)] at hk ⊢
  rw [shapeCast_self]
  have hl := block_loop b hb hL hoff (inb := inb) hX hT hoffN st hz hs
  refine holds_full _ io' _ fun k => ?_
  refine holds_cross hb (by omega) (read_put hb hL hoff inb _ hl) _ hl iou (fun r k => ?_) keep ?_ lo hlo k
  · rw [hiou, View.readAt_full]
    exact hX r k
  · rw [hk, View.readAt_full]

/-- The last block's store: every flag at the end of the recursion. -/
theorem block_last (hb7 : 128 * b + 128 = 1024) {n : ℕ} (hn : n = N) (sc : S1x128.ShapeCasts S1x128)
    {init : Vec Ideal S1x128 .f32} (hi : init = v7.readAt (Elt Ideal) (Rect.unit (s := S1x1024) off S1x128.size inb).toLoadRect (v7.writes (Elt Ideal) f7 L)) :
    Holds v7 f7 S 1024 (⟨Rect.unit (s := S1x1024) off S1x128.size inb, shapeCast S1x128 (st init n) sc⟩ :: L) := by
  subst hn hi
  rw [shapeCast_self]
  intro k
  rw [read_put hb hL hoff inb _ (block_loop b hb hL hoff (inb := inb) hX hT hoffN st hz hs)]
  split
  · rw [hb7]
  · next h => exact kf_congr (by rw [alive_of_le (show k.val ≤ 128 * b by omega), alive_of_le (show k.val ≤ 1024 by omega)])

end Cert.KernelIdeal.Block

end
-- ==== Proof.KPays.lean ====
/-
  The eight blocks of the kernel compute the same three things: the names the printed program gives to their pieces, each
  identified with the one function it is.
-/
module

public import proofs.«01_k».proof.Proof.KBlock

@[expose] public section

set_option maxRecDepth 16384

noncomputable section

namespace Cert.KernelIdeal.Block

open Cert.KernelIdeal Cert.KernelIdeal.Gen
open Idealize.ShloMosaic Idealize.ShloMosaic.TcCoe

variable {F : FTy → Type} [FloatOps F]

section Overlaps
variable (a b c d e f : FVec F S1x1024 .f32) (p q r s t : FVec F S128x1 .f32)

/-! The overlaps of blocks 0 to 7. -/
theorem iou_0 : k0_pay60 (k0_pay59 a b c d e f k0_pay56 p q r s t)
    = shapeCast S128x1024 (iouBlk a b c d (k0_pay57 e f k0_pay56) p q r s t) shapeCasts_S128x1024_S128x1024 := rfl
theorem iou_1 : k0_pay65 a b c d e p q r s t = shapeCast S128x1024 (iouBlk a b c d e p q r s t) shapeCasts_S128x1024_S128x1024 := rfl
theorem iou_2 : k0_pay69 a b c d e p q r s t = shapeCast S128x1024 (iouBlk a b c d e p q r s t) shapeCasts_S128x1024_S128x1024 := rfl
theorem iou_3 : k0_pay78 d e r s t (k0_pay75 a p) (k0_pay76 b q) (k0_pay77 c)
    = shapeCast S128x1024 (iouBlk a b c d e p q r s t) shapeCasts_S128x1024_S128x1024 := rfl
theorem iou_4 : k0_pay87 e t (k0_pay84 a c p r) (k0_pay85 b d q s) k0_pay86
    = shapeCast S128x1024 (iouBlk a b c d e p q r s t) shapeCasts_S128x1024_S128x1024 := rfl
theorem iou_5 : k0_pay94 (k0_pay93 a b c d e p q r s t) = shapeCast S128x1024 (iouBlk a b c d e p q r s t) shapeCasts_S128x1024_S128x1024 := rfl
theorem iou_6 : k0_pay99 a b c d e p q r s t = shapeCast S128x1024 (iouBlk a b c d e p q r s t) shapeCasts_S128x1024_S128x1024 := rfl
theorem iou_7 : k0_pay103 a b c d e p q r s t = shapeCast S128x1024 (iouBlk a b c d e p q r s t) shapeCasts_S128x1024_S128x1024 := rfl

end Overlaps

section Trips
variable (l : IVec S1x128 32) (u : IVec S8x128 32) (kb : FVec F S1x128 .f32) (rows : FVec F S8x128 .f32)

/-! A trip of the loop inside blocks 0 to 7. -/
theorem trip_0 (k) : k0_pay61 l kb (Scf.iv 0#32 1#32 k.val) (k0_pay2 u 0#32 1#32 k rows) (k0_pay3 l 0#32 1#32 k kb) = tripFn l u (Scf.iv 0#32 1#32 k.val) rows kb := rfl
theorem trip_1 (k) : k0_pay66 l kb (Scf.iv 0#32 1#32 k.val) (k0_pay4 u 0#32 1#32 k rows) (k0_pay5 l 0#32 1#32 k kb) = tripFn l u (Scf.iv 0#32 1#32 k.val) rows kb := rfl
theorem trip_2 (k) : k0_pay70 l kb (Scf.iv 0#32 1#32 k.val) (k0_pay6 u 0#32 1#32 k rows) (k0_pay7 l 0#32 1#32 k kb) = tripFn l u (Scf.iv 0#32 1#32 k.val) rows kb := rfl
theorem trip_3 (k) : k0_pay79 l kb (Scf.iv 0#32 1#32 k.val) (k0_pay8 u 0#32 1#32 k rows) (k0_pay9 l 0#32 1#32 k kb) = tripFn l u (Scf.iv 0#32 1#32 k.val) rows kb := rfl
theorem trip_4 (k) : k0_pay88 l kb (Scf.iv 0#32 1#32 k.val) (k0_pay10 u 0#32 1#32 k rows) (k0_pay11 l 0#32 1#32 k kb) = tripFn l u (Scf.iv 0#32 1#32 k.val) rows kb := rfl
theorem trip_5 (k) : k0_pay95 l kb (Scf.iv 0#32 1#32 k.val) (k0_pay12 u 0#32 1#32 k rows) (k0_pay13 l 0#32 1#32 k kb) = tripFn l u (Scf.iv 0#32 1#32 k.val) rows kb := rfl
theorem trip_6 (k) : k0_pay100 l kb (Scf.iv 0#32 1#32 k.val) (k0_pay14 u 0#32 1#32 k rows) (k0_pay15 l 0#32 1#32 k kb) = tripFn l u (Scf.iv 0#32 1#32 k.val) rows kb := rfl
theorem trip_7 (k) : k0_pay104 l kb (Scf.iv 0#32 1#32 k.val) (k0_pay16 u 0#32 1#32 k rows) (k0_pay17 l 0#32 1#32 k kb) = tripFn l u (Scf.iv 0#32 1#32 k.val) rows kb := rfl

end Trips

section Updates
variable (l : IVec S1x1024 32) (l2 s2 : IVec S128x128 32) (kb : FVec F S1x128 .f32) (iou : FVec F S128x1024 .f32) (keep : FVec F S1x1024 .f32)

/-! The update of the flags behind blocks 0 to 6. -/
theorem cross_0 : k0_pay64 (k0_pay63 l l2 s2 kb iou keep) = shapeCast S1x1024 (crossFn l l2 s2 128#32 kb iou keep) shapeCasts_S1x1024_S1x1024 := rfl
theorem cross_1 : k0_pay68 l l2 s2 kb iou keep = shapeCast S1x1024 (crossFn l l2 s2 256#32 kb iou keep) shapeCasts_S1x1024_S1x1024 := rfl
theorem cross_2 : k0_pay74 l (k0_pay72 l2 s2) (k0_pay73 kb) (Scalar.ofBits .f32 0x00000000#32) iou keep
    = shapeCast S1x1024 (crossFn l l2 s2 384#32 kb iou keep) shapeCasts_S1x1024_S1x1024 := rfl
theorem cross_3 : k0_pay83 l (k0_pay81 l2 s2 kb) (k0_pay82 iou) (Scalar.ofBits .f32 0x00000000#32) keep
    = shapeCast S1x1024 (crossFn l l2 s2 512#32 kb iou keep) shapeCasts_S1x1024_S1x1024 := rfl
theorem cross_4 : k0_pay92 l (k0_pay90 l2 s2 kb iou) keep k0_pay91 = shapeCast S1x1024 (crossFn l l2 s2 640#32 kb iou keep) shapeCasts_S1x1024_S1x1024 := rfl
theorem cross_5 : k0_pay98 (k0_pay97 l l2 s2 kb iou keep) = shapeCast S1x1024 (crossFn l l2 s2 768#32 kb iou keep) shapeCasts_S1x1024_S1x1024 := rfl
theorem cross_6 : k0_pay102 l l2 s2 kb iou keep = shapeCast S1x1024 (crossFn l l2 s2 896#32 kb iou keep) shapeCasts_S1x1024_S1x1024 := rfl

end Updates

end Cert.KernelIdeal.Block

end
-- ==== Proof.KKeep.lean ====
/-
  The kernel's eight blocks, one after the other: the row of flags the kernel ends with is the greedy suppression's.
-/
module
public import proofs.«01_k».proof.Proof.KWords
public import proofs.«01_k».proof.Proof.KRun
public import proofs.«01_k».proof.Proof.KPays
@[expose] public section
set_option maxRecDepth 16384
noncomputable section
namespace Cert.KernelIdeal.Block
open Cert.KernelIdeal Cert.KernelIdeal.Gen Cert.Nms Cert.Det
open Idealize.ShloMosaic Idealize.ShloMosaic.TcCoe

/-! Every loop makes 128 trips, and trip `k` of block `b` loads the eight rows holding row `k`, at the block's own lanes. -/
theorem trips_0 : k0_t1_loop.trips = 128 := by decide +kernel
theorem trips_1 : k0_t2_loop.trips = 128 := by decide +kernel
theorem trips_2 : k0_t3_loop.trips = 128 := by decide +kernel
theorem trips_3 : k0_t4_loop.trips = 128 := by decide +kernel
theorem trips_4 : k0_t5_loop.trips = 128 := by decide +kernel
theorem trips_5 : k0_t6_loop.trips = 128 := by decide +kernel
theorem trips_6 : k0_t7_loop.trips = 128 := by decide +kernel
theorem trips_7 : k0_t8_loop.trips = 128 := by decide +kernel
theorem off_0 : ∀ k : Fin k0_t1_loop.trips, k0_off1 k = ![k.val / 8 * 8, 128 * 0] := by decide +kernel
theorem off_1 : ∀ k : Fin k0_t2_loop.trips, k0_off2 k = ![k.val / 8 * 8, 128 * 1] := by decide +kernel
theorem off_2 : ∀ k : Fin k0_t3_loop.trips, k0_off3 k = ![k.val / 8 * 8, 128 * 2] := by decide +kernel
theorem off_3 : ∀ k : Fin k0_t4_loop.trips, k0_off4 k = ![k.val / 8 * 8, 128 * 3] := by decide +kernel
theorem off_4 : ∀ k : Fin k0_t5_loop.trips, k0_off5 k = ![k.val / 8 * 8, 128 * 4] := by decide +kernel
theorem off_5 : ∀ k : Fin k0_t6_loop.trips, k0_off6 k = ![k.val / 8 * 8, 128 * 5] := by decide +kernel
theorem off_6 : ∀ k : Fin k0_t7_loop.trips, k0_off7 k = ![k.val / 8 * 8, 128 * 6] := by decide +kernel
theorem off_7 : ∀ k : Fin k0_t8_loop.trips, k0_off8 k = ![k.val / 8 * 8, 128 * 7] := by decide +kernel

variable (c : Dev nD) (arg0 : Memref sig .tc .vmem S1024x8 .f32) (harg0 : arg0.IsWhole) (arg1 : Memref sig .tc .vmem S1024x4 .f32) (harg1 : arg1.IsWhole)
  (arg2 : Memref sig .tc .vmem S8x1024 .f32) (harg2 : arg2.IsWhole) (arg3 : Memref sig .tc .vmem S4x1024 .f32) (harg3 : arg3.IsWhole)
  (arg4 : Memref sig .tc .vmem S8x1024 .f32) (harg4 : arg4.IsWhole) (arg5 : Memref sig .tc .vmem S1024x8 .f32) (harg5 : arg5.IsWhole)
  (arg6 : Memref sig .tc .vmem S128x1024 .f32) (harg6 : arg6.IsWhole) (arg7 : Memref sig .tc .vmem S1x1024 .f32) (harg7 : arg7.IsWhole)
  (x0 : Vec Ideal S1024x8 .f32) (x1 : Vec Ideal S1024x4 .f32) (x2 : Vec Ideal S8x1024 .f32) (x3 : Vec Ideal S4x1024 .f32)
  (G : ℕ → Fin 8 → EReal) (A : ℕ → Fin 4 → EReal)

/-- The numbers the columns of block `b` hold. -/
def colv (b : ℕ) (j : Fin 5) (r : Fin 128) : EReal :=
  ![bx1 (G (128 * b + r.val)) (A (128 * b + r.val)), by1 (G (128 * b + r.val)) (A (128 * b + r.val)), bx2 (G (128 * b + r.val)) (A (128 * b + r.val)),
    by2 (G (128 * b + r.val)) (A (128 * b + r.val)), barea (G (128 * b + r.val)) (A (128 * b + r.val))] j

variable (h0 : ∀ (k : Fin 1024) (i : Fin 8), x0 (ix2 k i) = G k.val i) (h1 : ∀ (k : Fin 1024) (i : Fin 4), x1 (ix2 k i) = A k.val i)
  (h2 : ∀ (i : Fin 8) (k : Fin 1024), x2 (ix2 i k) = G k.val i) (h3 : ∀ (i : Fin 4) (k : Fin 1024), x3 (ix2 i k) = A k.val i)

include h0 h1 h2 h3

omit h2 h3 in
theorem col' (b : ℕ) (hb : b < 8) (j : Fin 5) (inb : ∀ a, ![128 * b, j.val] a + S128x1.size a ≤ S1024x8.size a) (r : Fin 128) :
    arg5.view.readCov (kernelRun0_A.sl.HS0_1 c arg0 harg0 arg1 harg1 x0 x1) (Rect.unit (s := S1024x8) ![128 * b, j.val] S128x1.size inb).toLoadRect (ix2 r 0)
      = colv G A b j r := col c arg0 harg0 arg1 harg1 arg5 x0 x1 G A h0 h1 b j rfl inb r (by omega)

omit h0 h1 in
/-- The overlaps of a block, as the last store left them, decide the suppression relation. -/
theorem over_read (b : ℕ) (hb : b < 8) {o6 : Fin 2 → ℕ} (io6 : ∀ a, o6 a + S128x1024.size a ≤ S128x1024.size a)
    (sc : S128x1024.ShapeCasts S128x1024) (P : List (View.Piece (Elt Ideal) S128x1024 .f32)) (f6 : arg6.view.ty.Contents (Elt Ideal))
    {w : Vec Ideal S128x1024 .f32}
    {p q s t u : Vec Ideal S128x1 .f32}
    (hw : w = shapeCast S128x1024 (iouBlk (F := Ideal) (kernelRun0_A.sl.r_9 c arg2 harg2 arg3 harg3 x2 x3) (kernelRun0_A.sl.r_10 c arg2 harg2 arg3 harg3 x2 x3)
      (kernelRun0_A.sl.r_11 c arg2 harg2 arg3 harg3 x2 x3) (kernelRun0_A.sl.r_12 c arg2 harg2 arg3 harg3 x2 x3) (kernelRun0_A.sl.r_15 c arg2 harg2 arg3 harg3 x2 x3)
      p q s t u) sc)
    (hp : ∀ r, p (ix2 r 0) = colv G A b 0 r) (hq : ∀ r, q (ix2 r 0) = colv G A b 1 r) (hs : ∀ r, s (ix2 r 0) = colv G A b 2 r)
    (ht : ∀ r, t (ix2 r 0) = colv G A b 3 r) (hu : ∀ r, u (ix2 r 0) = colv G A b 4 r)
    (r : Fin 128) (k : Fin 1024) :
    thr < arg6.view.read (Elt Ideal) (arg6.view.writes (Elt Ideal) f6 (⟨Rect.unit (s := S128x1024) o6 S128x1024.size io6, w⟩ :: P)) (ix2 r k)
      ↔ Over G A (128 * b + r.val) k.val := by
  subst hw
  rw [View.read_writes_full, shapeCast_self, iouBlk_apply, hp, hq, hs, ht, hu,
    row_x1 c arg2 harg2 arg3 harg3 x2 x3 G A h2 h3, row_y1 c arg2 harg2 arg3 harg3 x2 x3 G A h2 h3, row_x2 c arg2 harg2 arg3 harg3 x2 x3 G A h2 h3,
    row_y2 c arg2 harg2 arg3 harg3 x2 x3 G A h2 h3, row_area c arg2 harg2 arg3 harg3 x2 x3 G A h2 h3]
  exact Iff.rfl

omit h0 h1 h2 h3 in
/-- Before the first block every flag is set. -/
theorem start : Holds arg7.view arg7.view.junk (Over G A) 0 (kernelRun0_A.sl.HS2_1 (F := Ideal)) := by
  unfold kernelRun0_A.sl.HS2_1
  refine holds_full _ _ _ fun k => ?_
  rw [kf_zero]
  pointwise [k0_pay58]

/-! The blocks. -/
/-- Block 0: the flags after it. -/
theorem holds_0 (hL : Holds arg7.view arg7.view.junk (Over G A) 0
      (kernelRun0_A.sl.HS2_1 (F := Ideal))) :
    Holds arg7.view arg7.view.junk (Over G A) 128
      (kernelRun0_A.sl.HS2_3 c arg0 harg0 arg1 harg1 arg2 harg2 arg3 harg3 arg4 harg4 arg5 harg5 arg6 harg6 arg7 harg7 x0 x1 x2 x3) := by
  have hc := fun j => col' c arg0 harg0 arg1 harg1 arg5 x0 x1 G A h0 h1 0 (by decide) j
  unfold kernelRun0_A.sl.HS2_3 kernelRun0_A.sl.HS2_2 kernelRun0_A.sl.r_17
  rw [cross_0]
  apply block_holds 0 (by decide) hL (off := ![0, 0]) (inbN := k0_off1_inb) rfl _ trips_0 off_0
    (st_k0_t1 _ _ _ _ _ _ _ _ _ _ _ _ _ _ _ _ _ _ _ _ _ _ _ _ _ _) _ _ rfl _ _ rfl rfl _ rfl _ _ rfl rfl rfl rfl rfl
  · exact over_read c arg2 harg2 arg3 harg3 arg6 x2 x3 G A h2 h3 0 (by decide) _ _ _ _ (iou_0 ..) (hc 0 _) (hc 1 _) (hc 2 _) (hc 3 _) (hc 4 _)
  · exact fun _ => rfl
  · exact fun init j => (st_k0_t1_succ _ _ _ _ _ _ _ _ _ _ _ _ _ _ _ _ _ _ _ _ _ _ _ _ _ _ init j).trans (by unfold tripR_k0_t1 trip_k0_t1; exact trip_0 ..)

/-- Block 1: the flags after it. -/
theorem holds_1 (hL : Holds arg7.view arg7.view.junk (Over G A) 128
      (kernelRun0_A.sl.HS2_3 c arg0 harg0 arg1 harg1 arg2 harg2 arg3 harg3 arg4 harg4 arg5 harg5 arg6 harg6 arg7 harg7 x0 x1 x2 x3)) :
    Holds arg7.view arg7.view.junk (Over G A) 256
      (kernelRun0_A.sl.HS2_5 c arg0 harg0 arg1 harg1 arg2 harg2 arg3 harg3 arg4 harg4 arg5 harg5 arg6 harg6 arg7 harg7 x0 x1 x2 x3) := by
  have hc := fun j => col' c arg0 harg0 arg1 harg1 arg5 x0 x1 G A h0 h1 1 (by decide) j
  unfold kernelRun0_A.sl.HS2_5 kernelRun0_A.sl.HS2_4
  rw [cross_1]
  apply block_holds 1 (by decide) hL (off := ![0, 128]) (inbN := k0_off2_inb) rfl _ trips_1 off_1
    (st_k0_t2 _ _ _ _ _ _ _ _ _ _ _ _ _ _ _ _ _ _ _ _ _ _ _ _ _ _ _ _) _ _ rfl _ _ rfl rfl _ rfl _ _ rfl rfl rfl rfl rfl
  · exact over_read c arg2 harg2 arg3 harg3 arg6 x2 x3 G A h2 h3 1 (by decide) _ _ _ _ (iou_1 ..) (hc 0 _) (hc 1 _) (hc 2 _) (hc 3 _) (hc 4 _)
  · exact fun _ => rfl
  · exact fun init j => (st_k0_t2_succ _ _ _ _ _ _ _ _ _ _ _ _ _ _ _ _ _ _ _ _ _ _ _ _ _ _ _ _ init j).trans (by unfold tripR_k0_t2 trip_k0_t2; exact trip_1 ..)

/-- Block 2: the flags after it. -/
theorem holds_2 (hL : Holds arg7.view arg7.view.junk (Over G A) 256
      (kernelRun0_A.sl.HS2_5 c arg0 harg0 arg1 harg1 arg2 harg2 arg3 harg3 arg4 harg4 arg5 harg5 arg6 harg6 arg7 harg7 x0 x1 x2 x3)) :
    Holds arg7.view arg7.view.junk (Over G A) 384
      (kernelRun0_A.sl.HS2_7 c arg0 harg0 arg1 harg1 arg2 harg2 arg3 harg3 arg4 harg4 arg5 harg5 arg6 harg6 arg7 harg7 x0 x1 x2 x3) := by
  have hc := fun j => col' c arg0 harg0 arg1 harg1 arg5 x0 x1 G A h0 h1 2 (by decide) j
  unfold kernelRun0_A.sl.HS2_7 kernelRun0_A.sl.HS2_6 kernelRun0_A.sl.r_18 kernelRun0_A.sl.cst_143
  rw [cross_2]
  apply block_holds 2 (by decide) hL (off := ![0, 256]) (inbN := k0_off3_inb) rfl _ trips_2 off_2
    (st_k0_t3 _ _ _ _ _ _ _ _ _ _ _ _ _ _ _ _ _ _ _ _ _ _ _ _ _ _ _ _ _ _ _ _) _ _ rfl _ _ rfl rfl _ rfl _ _ rfl rfl rfl rfl rfl
  · exact over_read c arg2 harg2 arg3 harg3 arg6 x2 x3 G A h2 h3 2 (by decide) _ _ _ _ (iou_2 ..) (hc 0 _) (hc 1 _) (hc 2 _) (hc 3 _) (hc 4 _)
  · exact fun _ => rfl
  · exact fun init j => (st_k0_t3_succ _ _ _ _ _ _ _ _ _ _ _ _ _ _ _ _ _ _ _ _ _ _ _ _ _ _ _ _ _ _ _ _ init j).trans (by unfold tripR_k0_t3 trip_k0_t3; exact trip_2 ..)

/-- Block 3: the flags after it. -/
theorem holds_3 (hL : Holds arg7.view arg7.view.junk (Over G A) 384
      (kernelRun0_A.sl.HS2_7 c arg0 harg0 arg1 harg1 arg2 harg2 arg3 harg3 arg4 harg4 arg5 harg5 arg6 harg6 arg7 harg7 x0 x1 x2 x3)) :
    Holds arg7.view arg7.view.junk (Over G A) 512
      (kernelRun0_A.sl.HS2_9 c arg0 harg0 arg1 harg1 arg2 harg2 arg3 harg3 arg4 harg4 arg5 harg5 arg6 harg6 arg7 harg7 x0 x1 x2 x3) := by
  have hc := fun j => col' c arg0 harg0 arg1 harg1 arg5 x0 x1 G A h0 h1 3 (by decide) j
  unfold kernelRun0_A.sl.HS2_9 kernelRun0_A.sl.HS2_8 kernelRun0_A.sl.r_22 kernelRun0_A.sl.r_23 kernelRun0_A.sl.cst_183
  rw [cross_3]
  apply block_holds 3 (by decide) hL (off := ![0, 384]) (inbN := k0_off4_inb) rfl _ trips_3 off_3
    (st_k0_t4 _ _ _ _ _ _ _ _ _ _ _ _ _ _ _ _ _ _ _ _ _ _ _ _ _ _ _ _ _ _ _ _) _ _ rfl _ _ rfl rfl _ rfl _ _ rfl rfl rfl rfl rfl
  · exact over_read c arg2 harg2 arg3 harg3 arg6 x2 x3 G A h2 h3 3 (by decide) _ _ _ _ (iou_3 ..) (hc 0 _) (hc 1 _) (hc 2 _) (hc 3 _) (hc 4 _)
  · exact fun _ => rfl
  · exact fun init j => (st_k0_t4_succ _ _ _ _ _ _ _ _ _ _ _ _ _ _ _ _ _ _ _ _ _ _ _ _ _ _ _ _ _ _ _ _ init j).trans (by unfold tripR_k0_t4 trip_k0_t4; exact trip_3 ..)

/-- Block 4: the flags after it. -/
theorem holds_4 (hL : Holds arg7.view arg7.view.junk (Over G A) 512
      (kernelRun0_A.sl.HS2_9 c arg0 harg0 arg1 harg1 arg2 harg2 arg3 harg3 arg4 harg4 arg5 harg5 arg6 harg6 arg7 harg7 x0 x1 x2 x3)) :
    Holds arg7.view arg7.view.junk (Over G A) 640
      (kernelRun0_A.sl.HS2_11 c arg0 harg0 arg1 harg1 arg2 harg2 arg3 harg3 arg4 harg4 arg5 harg5 arg6 harg6 arg7 harg7 x0 x1 x2 x3) := by
  have hc := fun j => col' c arg0 harg0 arg1 harg1 arg5 x0 x1 G A h0 h1 4 (by decide) j
  unfold kernelRun0_A.sl.HS2_11 kernelRun0_A.sl.HS2_10 kernelRun0_A.sl.r_26
  rw [cross_4]
  apply block_holds 4 (by decide) hL (off := ![0, 512]) (inbN := k0_off5_inb) rfl _ trips_4 off_4
    (st_k0_t5 _ _ _ _ _ _ _ _ _ _ _ _ _ _ _ _ _ _ _ _ _ _ _ _ _ _ _ _ _) _ _ rfl _ _ rfl rfl _ rfl _ _ rfl rfl rfl rfl rfl
  · exact over_read c arg2 harg2 arg3 harg3 arg6 x2 x3 G A h2 h3 4 (by decide) _ _ _ _ (iou_4 ..) (hc 0 _) (hc 1 _) (hc 2 _) (hc 3 _) (hc 4 _)
  · exact fun _ => rfl
  · exact fun init j => (st_k0_t5_succ _ _ _ _ _ _ _ _ _ _ _ _ _ _ _ _ _ _ _ _ _ _ _ _ _ _ _ _ _ init j).trans (by unfold tripR_k0_t5 trip_k0_t5; exact trip_4 ..)

/-- Block 5: the flags after it. -/
theorem holds_5 (hL : Holds arg7.view arg7.view.junk (Over G A) 640
      (kernelRun0_A.sl.HS2_11 c arg0 harg0 arg1 harg1 arg2 harg2 arg3 harg3 arg4 harg4 arg5 harg5 arg6 harg6 arg7 harg7 x0 x1 x2 x3)) :
    Holds arg7.view arg7.view.junk (Over G A) 768
      (kernelRun0_A.sl.HS2_13 c arg0 harg0 arg1 harg1 arg2 harg2 arg3 harg3 arg4 harg4 arg5 harg5 arg6 harg6 arg7 harg7 x0 x1 x2 x3) := by
  have hc := fun j => col' c arg0 harg0 arg1 harg1 arg5 x0 x1 G A h0 h1 5 (by decide) j
  unfold kernelRun0_A.sl.HS2_13 kernelRun0_A.sl.HS2_12 kernelRun0_A.sl.r_28
  rw [cross_5]
  apply block_holds 5 (by decide) hL (off := ![0, 640]) (inbN := k0_off6_inb) rfl _ trips_5 off_5
    (st_k0_t6 _ _ _ _ _ _ _ _ _ _ _ _ _ _ _ _ _ _ _ _ _ _ _ _ _ _) _ _ rfl _ _ rfl rfl _ rfl _ _ rfl rfl rfl rfl rfl
  · exact over_read c arg2 harg2 arg3 harg3 arg6 x2 x3 G A h2 h3 5 (by decide) _ _ _ _ (iou_5 ..) (hc 0 _) (hc 1 _) (hc 2 _) (hc 3 _) (hc 4 _)
  · exact fun _ => rfl
  · exact fun init j => (st_k0_t6_succ _ _ _ _ _ _ _ _ _ _ _ _ _ _ _ _ _ _ _ _ _ _ _ _ _ _ init j).trans (by unfold tripR_k0_t6 trip_k0_t6; exact trip_5 ..)

/-- Block 6: the flags after it. -/
theorem holds_6 (hL : Holds arg7.view arg7.view.junk (Over G A) 768
      (kernelRun0_A.sl.HS2_13 c arg0 harg0 arg1 harg1 arg2 harg2 arg3 harg3 arg4 harg4 arg5 harg5 arg6 harg6 arg7 harg7 x0 x1 x2 x3)) :
    Holds arg7.view arg7.view.junk (Over G A) 896
      (kernelRun0_A.sl.HS2_15 c arg0 harg0 arg1 harg1 arg2 harg2 arg3 harg3 arg4 harg4 arg5 harg5 arg6 harg6 arg7 harg7 x0 x1 x2 x3) := by
  have hc := fun j => col' c arg0 harg0 arg1 harg1 arg5 x0 x1 G A h0 h1 6 (by decide) j
  unfold kernelRun0_A.sl.HS2_15 kernelRun0_A.sl.HS2_14
  rw [cross_6]
  apply block_holds 6 (by decide) hL (off := ![0, 768]) (inbN := k0_off7_inb) rfl _ trips_6 off_6
    (st_k0_t7 _ _ _ _ _ _ _ _ _ _ _ _ _ _ _ _ _ _ _ _ _ _ _ _ _ _ _ _) _ _ rfl _ _ rfl rfl _ rfl _ _ rfl rfl rfl rfl rfl
  · exact over_read c arg2 harg2 arg3 harg3 arg6 x2 x3 G A h2 h3 6 (by decide) _ _ _ _ (iou_6 ..) (hc 0 _) (hc 1 _) (hc 2 _) (hc 3 _) (hc 4 _)
  · exact fun _ => rfl
  · exact fun init j => (st_k0_t7_succ _ _ _ _ _ _ _ _ _ _ _ _ _ _ _ _ _ _ _ _ _ _ _ _ _ _ _ _ init j).trans (by unfold tripR_k0_t7 trip_k0_t7; exact trip_6 ..)

/-- Block 7: the flags after it. -/
theorem holds_7 (hL : Holds arg7.view arg7.view.junk (Over G A) 896
      (kernelRun0_A.sl.HS2_15 c arg0 harg0 arg1 harg1 arg2 harg2 arg3 harg3 arg4 harg4 arg5 harg5 arg6 harg6 arg7 harg7 x0 x1 x2 x3)) :
    Holds arg7.view arg7.view.junk (Over G A) 1024
      (kernelRun0_A.sl.HS2_16 c arg0 harg0 arg1 harg1 arg2 harg2 arg3 harg3 arg4 harg4 arg5 harg5 arg6 harg6 arg7 harg7 x0 x1 x2 x3) := by
  have hc := fun j => col' c arg0 harg0 arg1 harg1 arg5 x0 x1 G A h0 h1 7 (by decide) j
  unfold kernelRun0_A.sl.HS2_16
  apply block_last 7 (by decide) hL (off := ![0, 896]) (inbN := k0_off8_inb) rfl _ trips_7 off_7
    (st_k0_t8 _ _ _ _ _ _ _ _ _ _ _ _ _ _ _ _ _ _ _ _ _ _ _ _ _ _ _ _ _ _) _ _ rfl rfl _ rfl
  rotate_right
  · exact fun init j => (st_k0_t8_succ _ _ _ _ _ _ _ _ _ _ _ _ _ _ _ _ _ _ _ _ _ _ _ _ _ _ _ _ _ _ init j).trans (by unfold tripR_k0_t8 trip_k0_t8; exact trip_7 ..)
  · exact over_read c arg2 harg2 arg3 harg3 arg6 x2 x3 G A h2 h3 7 (by decide) _ _ _ _ (iou_7 ..) (hc 0 _) (hc 1 _) (hc 2 _) (hc 3 _) (hc 4 _)
  · exact fun _ => rfl

/-- The flags the kernel reads back at its end. -/
theorem flags (k : Fin 1024) : kernelRun0_A.sl.v648 c arg0 harg0 arg1 harg1 arg2 harg2 arg3 harg3 arg4 harg4 arg5 harg5 arg6 harg6 arg7 harg7 x0 x1 x2 x3 (ix2 0 k) = kf (Over G A) 1024 k.val := by
  unfold kernelRun0_A.sl.v648
  have h := start arg7 G A
  replace h := holds_0 c arg0 harg0 arg1 harg1 arg2 harg2 arg3 harg3 arg4 harg4 arg5 harg5 arg6 harg6 arg7 harg7 x0 x1 x2 x3 G A h0 h1 h2 h3 h
  replace h := holds_1 c arg0 harg0 arg1 harg1 arg2 harg2 arg3 harg3 arg4 harg4 arg5 harg5 arg6 harg6 arg7 harg7 x0 x1 x2 x3 G A h0 h1 h2 h3 h
  replace h := holds_2 c arg0 harg0 arg1 harg1 arg2 harg2 arg3 harg3 arg4 harg4 arg5 harg5 arg6 harg6 arg7 harg7 x0 x1 x2 x3 G A h0 h1 h2 h3 h
  replace h := holds_3 c arg0 harg0 arg1 harg1 arg2 harg2 arg3 harg3 arg4 harg4 arg5 harg5 arg6 harg6 arg7 harg7 x0 x1 x2 x3 G A h0 h1 h2 h3 h
  replace h := holds_4 c arg0 harg0 arg1 harg1 arg2 harg2 arg3 harg3 arg4 harg4 arg5 harg5 arg6 harg6 arg7 harg7 x0 x1 x2 x3 G A h0 h1 h2 h3 h
  replace h := holds_5 c arg0 harg0 arg1 harg1 arg2 harg2 arg3 harg3 arg4 harg4 arg5 harg5 arg6 harg6 arg7 harg7 x0 x1 x2 x3 G A h0 h1 h2 h3 h
  replace h := holds_6 c arg0 harg0 arg1 harg1 arg2 harg2 arg3 harg3 arg4 harg4 arg5 harg5 arg6 harg6 arg7 harg7 x0 x1 x2 x3 G A h0 h1 h2 h3 h
  replace h := holds_7 c arg0 harg0 arg1 harg1 arg2 harg2 arg3 harg3 arg4 harg4 arg5 harg5 arg6 harg6 arg7 harg7 x0 x1 x2 x3 G A h0 h1 h2 h3 h
  refine (congrFun (View.readAt_full (Val := Elt Ideal) arg7.view _ inb_S1x1024_S1x1024_0_0) _).trans ?_
  exact h k

end Cert.KernelIdeal.Block

end
-- ==== Proof.KOut.lean ====
/-
  What the kernel stores: field `j` of candidate `k` in row `j` and lane `k`, where the candidate is reported, else zero.
-/
module

public import proofs.«01_k».proof.Proof.KKeep

@[expose] public section

set_option maxRecDepth 16384

noncomputable section

namespace Cert.KernelIdeal.Block

open Cert.KernelIdeal Cert.KernelIdeal.Gen Cert.Nms Cert.Det
open Idealize.ShloMosaic Idealize.ShloMosaic.TcCoe

variable (c : Dev nD) (arg0 : Memref sig .tc .vmem S1024x8 .f32) (harg0 : arg0.IsWhole) (arg1 : Memref sig .tc .vmem S1024x4 .f32) (harg1 : arg1.IsWhole)
  (arg2 : Memref sig .tc .vmem S8x1024 .f32) (harg2 : arg2.IsWhole) (arg3 : Memref sig .tc .vmem S4x1024 .f32) (harg3 : arg3.IsWhole)
  (arg4 : Memref sig .tc .vmem S8x1024 .f32) (harg4 : arg4.IsWhole) (arg5 : Memref sig .tc .vmem S1024x8 .f32) (harg5 : arg5.IsWhole)
  (arg6 : Memref sig .tc .vmem S128x1024 .f32) (harg6 : arg6.IsWhole) (arg7 : Memref sig .tc .vmem S1x1024 .f32) (harg7 : arg7.IsWhole)
  (x0 : Vec Ideal S1024x8 .f32) (x1 : Vec Ideal S1024x4 .f32) (x2 : Vec Ideal S8x1024 .f32) (x3 : Vec Ideal S4x1024 .f32)
  (G : ℕ → Fin 8 → EReal) (A : ℕ → Fin 4 → EReal)
  (h0 : ∀ (k : Fin 1024) (i : Fin 8), x0 (ix2 k i) = G k.val i) (h1 : ∀ (k : Fin 1024) (i : Fin 4), x1 (ix2 k i) = A k.val i)
  (h2 : ∀ (i : Fin 8) (k : Fin 1024), x2 (ix2 i k) = G k.val i) (h3 : ∀ (i : Fin 4) (k : Fin 1024), x3 (ix2 i k) = A k.val i)

/-- The choice of one row of the stored vector at a lane. -/
theorem pick (v : EReal) (n k : ℕ) :
    Scalar.select (α := EReal) (Scalar.andi (Scalar.andi (BitVec.ofBool (decide (0 < kf (Over G A) n k))) (BitVec.ofBool (decide (half < obj (G k)))))
        (BitVec.ofBool (decide (half < score (G k))))) v 0
      = open Classical in if alive (Over G A) n k ∧ half < obj (G k) ∧ half < score (G k) then v else 0 := by
  classical
  simp only [kf_pos]
  by_cases a : alive (Over G A) n k <;> by_cases b : half < obj (G k) <;> by_cases d : half < score (G k) <;> simp [a, b, d] <;> rfl

/-- The constant the flags are compared with. -/
theorem cst0 : kernelRun0_A.sl.cst_320 (F := Ideal) = (0 : EReal) := by
  unfold kernelRun0_A.sl.cst_320
  exact Ideal.ofBits_zero_f32

include h0 h1 h2 h3

/-- The stored vector, at field `j` of candidate `k`. -/
theorem out (j : Fin 7) (k : Fin 1024) :
    out0_A_4 (F := Ideal) c arg0 harg0 arg1 harg1 arg2 harg2 arg3 harg3 arg4 harg4 arg5 harg5 arg6 harg6 arg7 harg7 x0 x1 x2 x3 (ix2 ⟨j.val, by omega⟩ k)
      = result G A k.val j := by
  unfold out0_A_4
  unfold kernelRun0_A
  dsimp only
  rw [View.read_writes_full]
  have e1 := row_x1 c arg2 harg2 arg3 harg3 x2 x3 G A h2 h3 k
  have e2 := row_y1 c arg2 harg2 arg3 harg3 x2 x3 G A h2 h3 k
  have e3 := row_x2 c arg2 harg2 arg3 harg3 x2 x3 G A h2 h3 k
  have e4 := row_y2 c arg2 harg2 arg3 harg3 x2 x3 G A h2 h3 k
  have e5 := row_obj c arg2 harg2 x2 G h2 k
  have e6 := row_cls c arg2 harg2 x2 G h2 k
  have e7 := row_score c arg2 harg2 x2 G h2 k
  have e8 := flags c arg0 harg0 arg1 harg1 arg2 harg2 arg3 harg3 arg4 harg4 arg5 harg5 arg6 harg6 arg7 harg7 x0 x1 x2 x3 G A h0 h1 h2 h3 k
  unfold k0_pay1 result
  fin_cases j
  all_goals
    pointwise
    simp only [e1, e2, e3, e4, e5, e6, e7, e8, cst0]
    exact pick G A _ 1024 k.val

end Cert.KernelIdeal.Block

end
-- ==== Proof.Take.lean ====
/-
  Rows of a table taken at positions that all lie inside it: the printed form, with its wrap of negative positions, its test of the
  bounds and its filling, gives exactly the rows.
-/
module

public import proofs.«01_k».proof.Proof.Det
public import Idealize.ShloMosaic.Lib.Routing.Ops
public import Idealize.ShloMosaic.Lib.Routing.OpsPair

@[expose] public section

set_option maxRecDepth 16384

noncomputable section

namespace Cert.Take

open Idealize.ShloMosaic
open Idealize.ShloMosaic.Routing (shape1 shape2 gather_row wrap_of_lt)

/-- A conjunction over an axis of bits that are all set is set. -/
theorem reduce_true {s t u : Shape} {axes : List (Fin s.rank)} (x : s.Idx → BitVec 1) (init : u.Idx → BitVec 1) (h : s.ReducesTo axes t) (hu : 0 < u.numel)
    (hx : ∀ i, x i = 1#1) (hi : ∀ i, init i = 1#1) (j : t.Idx) : Host.reduce IntOp.andi x init h hu j = 1#1 := by
  unfold Host.reduce
  rw [hi]
  generalize List.filter _ _ = l
  induction l with
  | nil => rfl
  | cons n l ih =>
    rw [List.foldl_cons, hx]
    exact ih

/-- A position inside the table is neither negative nor past its end. -/
theorem pos_ge (p : Fin 20736) : IntOp.cmpi .sge (BitVec.ofNat 32 p.val) 0#32 = 1#1 := by
  have h := p.isLt
  have e : (BitVec.ofNat 32 p.val).toInt = p.val := StableHlo.Predicate.toInt_ofNat_small _ (by omega)
  have e0 : (0#32).toInt = 0 := by decide
  show BitVec.ofBool (decide ((0#32).toInt ≤ (BitVec.ofNat 32 p.val).toInt)) = 1#1
  rw [e, e0, decide_eq_true (by omega)]
  rfl

theorem pos_le (p : Fin 20736) : IntOp.cmpi .sle (BitVec.ofNat 32 p.val) 20735#32 = 1#1 := by
  have h := p.isLt
  have e : (BitVec.ofNat 32 p.val).toInt = p.val := StableHlo.Predicate.toInt_ofNat_small _ (by omega)
  have e1 : (20735#32).toInt = 20735 := by decide
  show BitVec.ofBool (decide ((BitVec.ofNat 32 p.val).toInt ≤ (20735#32).toInt)) = 1#1
  rw [e, e1, decide_eq_true (by omega)]
  rfl

/-- The wrapped positions. -/
def wrapped (b0 b1 : IVec (shape1 1024) 32) (idx : IVec (shape1 1024) 32) (hc : (shape1 1024).BroadcastsInDim (shape2 1024 1) ![0]) : IVec (shape2 1024 1) 32 :=
  broadcastInDim (shape2 1024 1) ![0] hc (select (cmpi .slt idx b0) (addi idx b1) idx)

theorem wrapped_apply (b0 b1 : IVec (shape1 1024) 32) (hb0 : ∀ i, b0 i = 0#32) (idx : IVec (shape1 1024) 32) (hc : (shape1 1024).BroadcastsInDim (shape2 1024 1) ![0])
    (p : Fin 1024 → Fin 20736) (hp : ∀ k, idx (ix1 k) = BitVec.ofNat 32 (p k).val) (k : Fin 1024) (z : Fin 1) :
    wrapped b0 b1 idx hc (ix2 k z) = BitVec.ofNat 32 (p k).val := by
  unfold wrapped
  have e : broadcastInDim (shape2 1024 1) ![0] hc (select (cmpi .slt idx b0) (addi idx b1) idx) (ix2 k z)
      = select (cmpi .slt idx b0) (addi idx b1) idx (ix1 k) := by
    unfold broadcastInDim
    refine congrArg _ (funext fun a => Fin.ext ?_)
    match a with
    | ⟨0, _⟩ => rfl
  rw [e]
  show Scalar.select (IntOp.cmpi .slt (idx (ix1 k)) (b0 (ix1 k))) (IntOp.addi (idx (ix1 k)) (b1 (ix1 k))) (idx (ix1 k)) = _
  rw [hb0, hp]
  exact wrap_of_lt _ _ (by have := (p k).isLt; rw [BitVec.toNat_ofNat]; omega)

/-- The rows taken. -/
theorem take {B : ℕ} (d : GatherDims (shape2 20736 B) (shape2 1024 1) (shape2 1024 B)) (hoff : d.offsetDims = [1]) (hcoll : d.collapsedSliceDims = [0])
    (hob : d.operandBatchingDims = []) (hsim : d.startIndexMap = [0]) (hivd : d.indexVectorDim = 1)
    (x : (shape2 20736 B).Idx → EReal) (b0 b1 : IVec (shape1 1024) 32) (hb0 : ∀ i, b0 i = 0#32) (idx : IVec (shape1 1024) 32)
    (hc : (shape1 1024).BroadcastsInDim (shape2 1024 1) ![0]) (lo hi : IVec (shape2 1024 1) 32) (hlo : ∀ i, lo i = 0#32) (hhi : ∀ i, hi i = 20735#32)
    {u : Shape} (one : u.Idx → BitVec 1) (hone : ∀ i, one i = 1#1) (hr : (shape2 1024 1).ReducesTo [1] (shape1 1024)) (hu : 0 < u.numel)
    (hm : (shape1 1024).BroadcastsInDim (shape2 1024 B) ![0]) (nan : (shape2 1024 B).Idx → EReal)
    (p : Fin 1024 → Fin 20736) (hp : ∀ k, idx (ix1 k) = BitVec.ofNat 32 (p k).val) (k : Fin 1024) (i : Fin B) :
    select (broadcastInDim (shape2 1024 B) ![0] hm (Host.reduce IntOp.andi (andi (cmpi .sge (wrapped b0 b1 idx hc) lo) (cmpi .sle (wrapped b0 b1 idx hc) hi)) one hr hu))
      (Host.gather d x (wrapped b0 b1 idx hc)) nan (ix2 k i) = x (ix2 (p k) i) := by
  have hw := wrapped_apply b0 b1 hb0 idx hc p hp
  have hmask : ∀ j, andi (cmpi .sge (wrapped b0 b1 idx hc) lo) (cmpi .sle (wrapped b0 b1 idx hc) hi) j = 1#1 := by
    intro j
    obtain ⟨a, b, rfl⟩ : ∃ (a : Fin 1024) (b : Fin 1), j = ix2 a b := ⟨j 0, j 1, by
      funext q
      match q with
      | ⟨0, _⟩ => rfl
      | ⟨1, _⟩ => rfl⟩
    show IntOp.andi (IntOp.cmpi .sge (wrapped b0 b1 idx hc (ix2 a b)) (lo _)) (IntOp.cmpi .sle (wrapped b0 b1 idx hc (ix2 a b)) (hi _)) = 1#1
    rw [hw, hlo, hhi, pos_ge, pos_le]
    rfl
  show Scalar.select (broadcastInDim (shape2 1024 B) ![0] hm (Host.reduce IntOp.andi (andi (cmpi .sge (wrapped b0 b1 idx hc) lo) (cmpi .sle (wrapped b0 b1 idx hc) hi)) one hr hu) (ix2 k i)) (Host.gather d x (wrapped b0 b1 idx hc) (ix2 k i)) (nan (ix2 k i)) = _
  have e : broadcastInDim (shape2 1024 B) ![0] hm (Host.reduce IntOp.andi (andi (cmpi .sge (wrapped b0 b1 idx hc) lo) (cmpi .sle (wrapped b0 b1 idx hc) hi)) one hr hu) (ix2 k i) = 1#1 := by
    unfold broadcastInDim
    exact reduce_true _ _ _ _ hmask hone _
  rw [e]
  exact gather_row d hoff hcoll hob hsim hivd x _ k i (p k) (hw k 0) (by norm_num)

end Cert.Take

end
-- ==== Proof.Top.lean ====
/-
  The order of the candidates: positions by falling objectness, equal ones by position.
-/
module

public import proofs.«01_k».proof.Proof.Take
public import Idealize.ShloMosaic.Lib.SortFacts

@[expose] public section

set_option maxRecDepth 16384

noncomputable section

namespace Cert.Top

open Idealize.ShloMosaic
open Idealize.ShloMosaic.Routing (shape1 shape2)

/-- The position of the `k`-th candidate by the numbers `key`. -/
def place (key : Fin 20736 → EReal) (k : Fin 20736) : Fin 20736 := sortedFrom (fun a b => decide (key b < key a)) k

theorem along1 (j : (shape1 20736).Idx) (k : Fin 20736) : j.along (0 : Fin 1) k = ix1 k := by
  funext a
  match a with
  | ⟨0, _⟩ => exact Function.update_self ..

/-- The second operand of a sort of two, the first a key and the second the positions. -/
theorem sort_at (cmp : EReal × BitVec 32 → EReal × BitVec 32 → BitVec 1) (x : (shape1 20736).Idx → EReal) (y : (shape1 20736).Idx → BitVec 32)
    (key : Fin 20736 → EReal) (hc : ∀ a b : Fin 20736, cmp (x (ix1 a), y (ix1 a)) (x (ix1 b), y (ix1 b)) = BitVec.ofBool (decide (key b < key a)))
    (hy : ∀ a : Fin 20736, y (ix1 a) = BitVec.ofNat 32 a.val) (k : Fin 20736) :
    (Host.sort2 (shape1 20736) 0 cmp x y).2 (ix1 k) = BitVec.ofNat 32 (place key k).val := by
  have hs : (fun a b : Fin 20736 => cmp (x ((ix1 k : (shape1 20736).Idx).along (0 : Fin 1) a), y ((ix1 k : (shape1 20736).Idx).along (0 : Fin 1) a))
      (x ((ix1 k : (shape1 20736).Idx).along (0 : Fin 1) b), y ((ix1 k : (shape1 20736).Idx).along (0 : Fin 1) b)) == 1#1)
      = fun a b => decide (key b < key a) := by
    funext a b
    have ea : (ix1 k : (shape1 20736).Idx).along (0 : Fin 1) a = ix1 a := along1 _ a
    have eb : (ix1 k : (shape1 20736).Idx).along (0 : Fin 1) b = ix1 b := along1 _ b
    rw [ea, eb, hc]
    by_cases h : key b < key a <;> simp [h]
  exact (congrArg y (along1 (ix1 k) _)).trans ((hy _).trans
    (congrArg (fun f : Fin 20736 → Fin 20736 → Bool => BitVec.ofNat 32 (sortedFrom f k).val) hs))

/-- The positions of the first 1024 by a printed selection of the greatest. -/
theorem top_at (x : (shape1 20736).Idx → EReal) (h : (shape1 20736).Slices (fun _ => 0) (shape1 1024)) (key : Fin 20736 → EReal)
    (hx : ∀ a : Fin 20736, x (ix1 a) = key a) (k : Fin 1024) :
    (Host.topK (shape1 1024) 0 (FloatOps.cmpfTotal (F := Ideal) (φ := .f32) .gt) x h).2 (ix1 k) = BitVec.ofNat 32 (place key ⟨k.val, by omega⟩).val := by
  have e : ∀ v : (shape1 20736).Idx → BitVec 32, extractStridedSlice (shape1 1024) (fun _ => 0) v h (ix1 k) = v (ix1 ⟨k.val, by omega⟩) := by
    intro v
    refine congrArg v (funext fun a => Fin.ext ?_)
    match a with
    | ⟨0, _⟩ => exact Nat.zero_add _
  refine (e (Host.sort2 (shape1 20736) 0 (fun l r => FloatOps.cmpfTotal (F := Ideal) (φ := .f32) .gt l.1 r.1) x
    (fun i => if hd : 0 < (shape1 20736).rank then iotaInDim (shape1 20736) 32 ⟨0, hd⟩ i else 0#32)).2).trans ?_
  refine sort_at _ x _ key (fun a b => ?_) (fun a => rfl) _
  rw [hx, hx]
  rfl

/-! The candidates of the arguments. -/
section
variable (X : (⟨3, ![1, 20736, 8]⟩ : Shape).Idx → EReal) (N : (shape2 20736 4).Idx → EReal)

/-- The objectness of a position. -/
def key (a : Fin 20736) : EReal := Det.obj fun i => X (ix3 0 a i)

/-- The position of candidate `k`. -/
def at_ (k : ℕ) : Fin 20736 := place (key X) ⟨k % 20736, Nat.mod_lt _ (by norm_num)⟩

theorem at_eq (k : Fin 1024) : at_ X k.val = place (key X) ⟨k.val, by omega⟩ := by
  have h : (⟨k.val % 20736, Nat.mod_lt _ (by norm_num)⟩ : Fin 20736) = ⟨k.val, by omega⟩ := Fin.ext (Nat.mod_eq_of_lt (by omega))
  unfold at_
  rw [h]

/-- Its row of predictions, and its anchor. -/
def row (k : ℕ) (i : Fin 8) : EReal := X (ix3 0 (at_ X k) i)
def anchor (k : ℕ) (i : Fin 4) : EReal := N (ix2 (at_ X k) i)

end

end Cert.Top

end
-- ==== Proof.KHost.lean ====
/-
  The kernel's host lines: the candidates' positions, their rows, and the transposes handed to the kernel.
-/
module

public import proofs.«01_k».proof.Proof.KOut
public import proofs.«01_k».proof.Proof.Top

@[expose] public section

set_option maxRecDepth 16384

noncomputable section

namespace Cert.KernelIdeal.Block

open Cert.KernelIdeal Cert.KernelIdeal.Gen Cert.Nms Cert.Det
open Idealize.ShloMosaic Idealize.ShloMosaic.TcCoe

variable (V : Valuation τ sig (Elt Ideal))

/-- The first lines leave the predictions as a table. -/
theorem table_at (a : Fin 20736) (i : Fin 8) :
    (StableHlo.after hostOps0 V (Proc.devRef .tc main_v0) : Vec Ideal S20736x8 .f32) (ix2 a i)
      = (V (Proc.devRef .tc main_arg0) : Vec Ideal S1x20736x8 .f32) (ix3 0 a i) := by
  after_results
  pointwise

/-- And every position's objectness. -/
theorem key_at (a : Fin 20736) :
    (StableHlo.after hostOps0 V (Proc.devRef .tc main_v8) : Vec Ideal S20736 .f32) (ix1 a) = Top.key (V (Proc.devRef .tc main_arg0)) a := by
  after_results
  unfold Top.key obj Ideal.logistic
  pointwise

/-- And the candidates' positions. -/
theorem indices_at (k : Fin 1024) :
    (StableHlo.after hostOps0 V (Proc.devRef .tc main_indices) : IVec S1024 32) (ix1 k)
      = BitVec.ofNat 32 (Top.at_ (V (Proc.devRef .tc main_arg0)) k.val).val := by
  have e : (StableHlo.after hostOps0 V (Proc.devRef .tc main_indices) : IVec S1024 32)
      = (Host.topK S1024 0 (FloatOps.cmpfTotal (F := Ideal) (φ := .f32) .gt) (StableHlo.after hostOps0 V (Proc.devRef .tc main_v8) : Vec Ideal S20736 .f32) sliceFits_S20736_S1024).2 := by
    after_results
  rw [e, Top.at_eq]
  exact Top.top_at _ _ _ (key_at V) k

/-- The rows of predictions taken. -/
theorem take0 (p : Fin 1024 → Fin 20736) (hp : ∀ k, (V (Proc.devRef .tc main_indices) : IVec S1024 32) (ix1 k) = BitVec.ofNat 32 (p k).val) (k : Fin 1024) (i : Fin 8) :
    (StableHlo.after hostOps0_1 V (Proc.devRef .tc main_v9) : Vec Ideal S1024x8 .f32) (ix2 k i)
      = (V (Proc.devRef .tc main_v0) : Vec Ideal S20736x8 .f32) (ix2 (p k) i) := by
  after_results
  exact Take.take gather_S20736x8_S1024x1_S1024x8_1_0_n_n_0_1_18 rfl rfl rfl rfl rfl _ (broadcastInDim S1024 ![] bcast_S_S1024 (constantI S_ 32 0#32))
    (broadcastInDim S1024 ![] bcast_S_S1024 (constantI S_ 32 20736#32)) (fun _ => rfl) (V (Proc.devRef .tc main_indices) : IVec S1024 32)
    bcast_S1024_S1024x1_0 _ _ (fun _ => rfl) (fun _ => rfl) _ (fun _ => rfl) reducesTo_S1024x1_S1024_d1 h_S_ bcast_S1024_S1024x8_0 _ p hp k i

/-- The anchors taken. -/
theorem take1 (p : Fin 1024 → Fin 20736) (hp : ∀ k, (V (Proc.devRef .tc main_indices) : IVec S1024 32) (ix1 k) = BitVec.ofNat 32 (p k).val) (k : Fin 1024) (i : Fin 4) :
    (StableHlo.after hostOps0_2 V (Proc.devRef .tc main_v10) : Vec Ideal S1024x4 .f32) (ix2 k i)
      = (V (Proc.devRef .tc main_arg1) : Vec Ideal S20736x4 .f32) (ix2 (p k) i) := by
  after_results
  exact Take.take gather_S20736x4_S1024x1_S1024x4_1_0_n_n_0_1_14 rfl rfl rfl rfl rfl _ (broadcastInDim S1024 ![] bcast_S_S1024 (constantI S_ 32 0#32))
    (broadcastInDim S1024 ![] bcast_S_S1024 (constantI S_ 32 20736#32)) (fun _ => rfl) (V (Proc.devRef .tc main_indices) : IVec S1024 32)
    bcast_S1024_S1024x1_0 _ _ (fun _ => rfl) (fun _ => rfl) _ (fun _ => rfl) reducesTo_S1024x1_S1024_d1 h_S_ bcast_S1024_S1024x4_0 _ p hp k i

/-- The transposes. -/
theorem trans0 (k : Fin 1024) (i : Fin 8) :
    (StableHlo.after hostOps0_3 V (Proc.devRef .tc main_v11) : Vec Ideal S8x1024 .f32) (ix2 i k)
      = (V (Proc.devRef .tc main_v9) : Vec Ideal S1024x8 .f32) (ix2 k i) := by
  after_results
  pointwise

theorem trans1 (k : Fin 1024) (i : Fin 4) :
    (StableHlo.after hostOps0_3 V (Proc.devRef .tc main_v12) : Vec Ideal S4x1024 .f32) (ix2 i k)
      = (V (Proc.devRef .tc main_v10) : Vec Ideal S1024x4 .f32) (ix2 k i) := by
  after_results
  pointwise

end Cert.KernelIdeal.Block

end
-- ==== Proof.KRead.lean ====
/-
  The kernel program's run: its result is the suppressed candidates of the arguments.
-/
module

public import proofs.«01_k».proof.Proof.KHost
public import Idealize.ShloMosaic.Lib.Pipeline.ValueKit

@[expose] public section

set_option maxRecDepth 16384

noncomputable section

namespace Cert.KernelIdeal.Block

open Cert.KernelIdeal Cert.KernelIdeal.Gen Cert.Nms Cert.Det
open Idealize.ShloMosaic Idealize.ShloMosaic.TcCoe Idealize.ShloMosaic.Tactic

variable (m : (ℓ : Loc nD τ sig) → Buf (Elt Ideal) ℓ) (ρ : Dev nD → PrngReg) (c : Dev nD)

/-- The predictions and the anchors as launched. -/
abbrev X : Vec Ideal S1x20736x8 .f32 := m (c, Proc.devRef .tc main_arg0)
abbrev N : Vec Ideal S20736x4 .f32 := m (c, Proc.devRef .tc main_arg1)

theorem entry : V0 m c = StableHlo.after hostOps0_3 (StableHlo.after hostOps0_2 (StableHlo.after hostOps0_1 (StableHlo.after hostOps0 fun b => m (c, b)))) := by
  show StableHlo.after (List.flatten [hostOps0, hostOps0_1, hostOps0_2, hostOps0_3]) _ = _
  rw [show (List.flatten [hostOps0, hostOps0_1, hostOps0_2, hostOps0_3] : List (HloOp τ sig (Elt Ideal))) = hostOps0 ++ (hostOps0_1 ++ (hostOps0_2 ++ hostOps0_3)) from rfl,
    StableHlo.after_append, StableHlo.after_append, StableHlo.after_append]

section
variable (U : Valuation τ sig (Elt Ideal))
/-! What the later lines leave alone. -/
theorem rows3 : StableHlo.after hostOps0_3 U (Proc.devRef .tc main_v9) = U (Proc.devRef .tc main_v9) := by after_results
theorem rows2 : StableHlo.after hostOps0_2 U (Proc.devRef .tc main_v9) = U (Proc.devRef .tc main_v9) := by after_results
theorem anchors3 : StableHlo.after hostOps0_3 U (Proc.devRef .tc main_v10) = U (Proc.devRef .tc main_v10) := by after_results
theorem indices1 : StableHlo.after hostOps0_1 U (Proc.devRef .tc main_indices) = U (Proc.devRef .tc main_indices) := by after_results
theorem arg1 : StableHlo.after hostOps0_1 U (Proc.devRef .tc main_arg1) = U (Proc.devRef .tc main_arg1) := by after_results
theorem arg0 : StableHlo.after hostOps0 U (Proc.devRef .tc main_arg1) = U (Proc.devRef .tc main_arg1) := by after_results
end

/-- The candidates' rows after the first take. -/
theorem rows_taken (k : Fin 1024) (i : Fin 8) : (StableHlo.after hostOps0_1 (StableHlo.after hostOps0 fun b => m (c, b)) (Proc.devRef .tc main_v9) : Vec Ideal S1024x8 .f32) (ix2 k i) = Top.row (X m c) k.val i :=
  (take0 _ (fun k => Top.at_ (X m c) k.val) (indices_at fun b => m (c, b)) k i).trans (table_at _ _ _)

/-- The candidates' anchors after the second. -/
theorem anchors_taken (k : Fin 1024) (i : Fin 4) :
    (StableHlo.after hostOps0_2 (StableHlo.after hostOps0_1 (StableHlo.after hostOps0 fun b => m (c, b))) (Proc.devRef .tc main_v10) : Vec Ideal S1024x4 .f32) (ix2 k i) = Top.anchor (X m c) (N m c) k.val i :=
  (take1 _ (fun k => Top.at_ (X m c) k.val) (fun k => (congrFun (indices1 _) _).trans (indices_at (fun b => m (c, b)) k)) k i).trans
    ((congrFun (arg1 _) _).trans (congrFun (arg0 _) _))

/-- The candidates' rows and anchors as the kernel finds them, upright and transposed. -/
theorem rows_entry (k : Fin 1024) (i : Fin 8) : (V0 m c (Proc.devRef .tc main_v9) : Vec Ideal S1024x8 .f32) (ix2 k i) = Top.row (X m c) k.val i := by
  rw [entry]
  exact (congrFun ((rows3 _).trans (rows2 _)) _).trans (rows_taken m c k i)

theorem anchors_entry (k : Fin 1024) (i : Fin 4) : (V0 m c (Proc.devRef .tc main_v10) : Vec Ideal S1024x4 .f32) (ix2 k i) = Top.anchor (X m c) (N m c) k.val i := by
  rw [entry]
  exact (congrFun (anchors3 _) _).trans (anchors_taken m c k i)

theorem rowsT_entry (k : Fin 1024) (i : Fin 8) : (V0 m c (Proc.devRef .tc main_v11) : Vec Ideal S8x1024 .f32) (ix2 i k) = Top.row (X m c) k.val i := by
  rw [entry]
  exact (trans0 _ k i).trans ((congrFun (rows2 _) _).trans (rows_taken m c k i))

theorem anchorsT_entry (k : Fin 1024) (i : Fin 4) : (V0 m c (Proc.devRef .tc main_v12) : Vec Ideal S4x1024 .f32) (ix2 i k) = Top.anchor (X m c) (N m c) k.val i := by
  rw [entry]
  exact (trans1 _ k i).trans (anchors_taken m c k i)

/-- The windows' blocks are the whole arrays. -/
theorem iblk0 (y : S1024x8.Idx) : iblk m c 0 t0_0 y = (V0 m c (Proc.devRef .tc main_v9) : Vec Ideal S1024x8 .f32) y := by
  refine congrArg (V0 m c (Proc.devRef .tc main_v9) : _ → EReal) (funext fun a => Fin.ext ?_)
  exact Pipeline.Window.rect_emb_val_of_index_zero win0_0 t0_0 a ((by decide +kernel : ∀ a, win0_0.index t0_0 a = 0) a) y
theorem iblk1 (y : S1024x4.Idx) : iblk m c 1 t0_0 y = (V0 m c (Proc.devRef .tc main_v10) : Vec Ideal S1024x4 .f32) y := by
  refine congrArg (V0 m c (Proc.devRef .tc main_v10) : _ → EReal) (funext fun a => Fin.ext ?_)
  exact Pipeline.Window.rect_emb_val_of_index_zero win0_1 t0_0 a ((by decide +kernel : ∀ a, win0_1.index t0_0 a = 0) a) y
theorem iblk2 (y : S8x1024.Idx) : iblk m c 2 t0_0 y = (V0 m c (Proc.devRef .tc main_v11) : Vec Ideal S8x1024 .f32) y := by
  refine congrArg (V0 m c (Proc.devRef .tc main_v11) : _ → EReal) (funext fun a => Fin.ext ?_)
  exact Pipeline.Window.rect_emb_val_of_index_zero win0_2 t0_0 a ((by decide +kernel : ∀ a, win0_2.index t0_0 a = 0) a) y
theorem iblk3 (y : S4x1024.Idx) : iblk m c 3 t0_0 y = (V0 m c (Proc.devRef .tc main_v12) : Vec Ideal S4x1024 .f32) y := by
  refine congrArg (V0 m c (Proc.devRef .tc main_v12) : _ → EReal) (funext fun a => Fin.ext ?_)
  exact Pipeline.Window.rect_emb_val_of_index_zero win0_3 t0_0 a ((by decide +kernel : ∀ a, win0_3.index t0_0 a = 0) a) y

/-- What the kernel leaves in its output array. -/
theorem array (j : Fin 7) (k : Fin 1024) : ((dats m 0 c).arrAt 4 (cfgs 0).N : Vec Ideal S8x1024 .f32) (ix2 ⟨j.val, by omega⟩ k) = result (Top.row (X m c)) (Top.anchor (X m c) (N m c)) k.val j := by
  have e : (dats m 0 c).arrAt 4 (cfgs 0).N = (outsAt0 m c t0_0 : Vec Ideal S8x1024 .f32) := by
    refine (dats m 0 c).arrAt_eq_of_after_last 4 t0_0 (by decide +kernel) _ fun j => ?_
    blk_simp
    exact congrFun (after0_4 m c t0_0) j
  refine (congrFun e _).trans ?_
  unfold outsAt0
  exact out c _ _ _ _ _ _ _ _ _ _ _ _ _ _ _ _ _ _ _ _ _ _
    (fun k i => (iblk0 m c _).trans (rows_entry m c k i)) (fun k i => (iblk1 m c _).trans (anchors_entry m c k i))
    (fun i k => (iblk2 m c _).trans (rowsT_entry m c k i)) (fun i k => (iblk3 m c _).trans (anchorsT_entry m c k i)) j k

/-- The lines after the kernel drop the last row and transpose. -/
theorem tail (U : Valuation τ sig (Elt Ideal)) (k : Fin 1024) (j : Fin 7) :
    (StableHlo.after hostOps1 U (Proc.devRef .tc main_v15) : Vec Ideal S1024x7 .f32) (ix2 k j) = (U (Proc.devRef .tc main_v13) : Vec Ideal S8x1024 .f32) (ix2 ⟨j.val, by omega⟩ k) := by
  after_results
  pointwise

/-- The program's run: the result, and the arguments unchanged. -/
theorem run : θ_run defs (onTc (τ := τ) (main (F := Ideal))) ⟨m, fun _ => 0, ρ⟩ (fun r => ∀ c : Dev nD,
      (∀ k j, (r.2.mem ((c.tc : Thread nD τ).loc main_v15) : Vec Ideal S1024x7 .f32) (ix2 k j) = result (Top.row (X m c)) (Top.anchor (X m c) (N m c)) k.val j)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨fun k j => ?_, ((h c).2 main_arg0 (Pipeline.mem_restRefs_of main_arg0 (by decide) (by decide))).trans (W_main_arg0 m _ c),
    ((h c).2 main_arg1 (Pipeline.mem_restRefs_of main_arg1 (by decide) (by decide))).trans (W_main_arg1 m _ c)⟩) (run_main m ρ)
  refine (congrFun ((h c).2 main_v15 (Pipeline.mem_restRefs_of main_v15 (by decide) (by decide))) _).trans ?_
  unfold Pipeline.afterTail₀
  refine (tail _ k j).trans ?_
  refine (congrFun (Pipeline.withArrays_arr (cfgs 0).spec (by decide) c (V0 m c) (fun w => (dats m 0 c).arrAt w (cfgs 0).N) 4) _).trans ?_
  exact array m c j k

end Cert.KernelIdeal.Block

end
-- ==== Proof.Arg.lean ====
/-
  The first greatest of three, as the reference's arg-max over the last axis computes it.
-/
module

public import proofs.«01_k».proof.Proof.RefFrame
public import Idealize.ShloMosaic.Lib.Pointwise

@[expose] public section

set_option maxRecDepth 16384

noncomputable section

namespace Cert.Arg

open Cert.ReferenceIdeal
open Idealize.ShloMosaic Idealize.ShloMosaic.TcCoe

/-- The places of the three entries of row `a`, in row-major order. -/
theorem places (h : S1x20736x3.ReducesTo [2] S1x20736) (a : Fin 20736) :
    ((List.finRange S1x20736x3.numel).filter fun n => h.drop (S1x20736x3.rowMajor.symm n) = ix2 0 a)
      = [S1x20736x3.rowMajor (ix3 0 a 0), S1x20736x3.rowMajor (ix3 0 a 1), S1x20736x3.rowMajor (ix3 0 a 2)] := by
  have val : ∀ i : S1x20736x3.Idx, (S1x20736x3.rowMajor i).val = (i 1).val * 3 + (i 2).val := fun i => by
    have h0 : (i 0).val = 0 := by have : (i 0).val < 1 := (i 0).isLt; omega
    rw [rowMajor_val3 i 62208 3 (by decide) (by decide), h0]; omega
  refine List.Perm.eq_of_pairwise (le := fun a b => a < b) (fun a b _ _ h1 h2 => absurd h1 (lt_asymm h2)) ?_ ?_ ((List.perm_ext_iff_of_nodup ?_ ?_).2 fun n => ?_)
  · exact (List.pairwise_lt_finRange _).filter _
  · simp only [List.pairwise_cons, List.mem_cons, List.not_mem_nil, or_false, Fin.lt_def, val, forall_eq_or_imp, forall_eq]
    simp
  · exact (List.nodup_finRange _).filter _
  · simp only [List.nodup_cons, List.mem_cons, List.not_mem_nil, or_false, Fin.ext_iff, val]
    simp
  · obtain ⟨i, rfl⟩ := S1x20736x3.rowMajor.surjective n
    simp only [List.mem_filter, List.mem_finRange, true_and, Equiv.symm_apply_apply, decide_eq_true_eq, List.mem_cons, List.not_mem_nil, or_false,
      EmbeddingLike.apply_eq_iff_eq]
    have d0 : (h.drop i 0).val = (i 0).val := h.drop_apply_val_of_eq i 0 0 (by decide)
    have d1 : (h.drop i 1).val = (i 1).val := h.drop_apply_val_of_eq i 1 1 (by decide)
    have key : h.drop i = ix2 0 a ↔ i 1 = a := by
      constructor
      · intro e; rw [e] at d1; exact Fin.ext d1.symm
      · intro e
        funext b
        apply Fin.ext
        match b with
        | ⟨0, _⟩ => have : (i 0).val < 1 := (i 0).isLt; exact d0.trans (by show (i 0).val = 0; omega)
        | ⟨1, _⟩ => exact d1.trans (congrArg Fin.val e)
    have all : ∀ c : Fin 3, i = ix3 0 a c ↔ i 1 = a ∧ i 2 = c := fun c => by
      constructor
      · rintro rfl; exact ⟨rfl, rfl⟩
      · rintro ⟨e1, e2⟩
        funext b
        apply Fin.ext
        match b with
        | ⟨0, _⟩ => have : (i 0).val < 1 := (i 0).isLt; show (i 0).val = 0; omega
        | ⟨1, _⟩ => exact congrArg Fin.val e1
        | ⟨2, _⟩ => exact congrArg Fin.val e2
    rw [key, all, all, all]
    have hc : i 2 = (0 : Fin 3) ∨ i 2 = (1 : Fin 3) ∨ i 2 = (2 : Fin 3) := by
      have : (i 2).val < 3 := (i 2).isLt
      rcases (by omega : (i 2).val = 0 ∨ (i 2).val = 1 ∨ (i 2).val = 2) with e | e | e
      · exact Or.inl (Fin.ext e)
      · exact Or.inr (Or.inl (Fin.ext e))
      · exact Or.inr (Or.inr (Fin.ext e))
    constructor
    · intro e; rcases hc with e' | e' | e'; exacts [Or.inl ⟨e, e'⟩, Or.inr (Or.inl ⟨e, e'⟩), Or.inr (Or.inr ⟨e, e'⟩)]
    · rintro (e | e | e) <;> exact e.1

open Classical in
/-- One step of the fold: a later entry replaces an earlier one if it is greater. -/
theorem step (u v : EReal) (i k : BitVec 32) (hik : i.slt k = true) :
    reducer_argmax_f32_i32 (F := Ideal) (u, i) (v, k) = (max u v, if u < v then k else i) := by
  unfold reducer_argmax_f32_i32
  simp only [Ideal.cmpf_def]
  rcases lt_trichotomy u v with h | h | h
  · simp [Ideal.cmp, h, h.le, h.ne, lt_asymm h, Scalar.select, IntOp.ori, IntOp.andi]
  · subst h
    simp [Ideal.cmp, Scalar.select, IntOp.ori, IntOp.andi, IntOp.cmpi, hik]
  · simp [Ideal.cmp, h, h.le, h.ne', lt_asymm h, Scalar.select, IntOp.ori, IntOp.andi]

/-- The first step, from the bottom. -/
theorem step0 (v : EReal) : reducer_argmax_f32_i32 (F := Ideal) (⊥, 0#32) (v, 0#32) = (v, 0#32) := by
  unfold reducer_argmax_f32_i32
  simp [Ideal.cmpf_def, Ideal.cmp, Scalar.select, IntOp.ori, IntOp.andi, IntOp.cmpi]

open Classical in
/-- The arg-max over the last axis, at one position. -/
theorem argmax (x : Vec Ideal S1x20736x3 .f32) (y : IVec S1x20736x3 32) (hy : ∀ a c, y (ix3 0 a c) = BitVec.ofNat 32 c.val)
    (ix : Vec Ideal S_ .f32) (hx : ∀ i, ix i = (⊥ : EReal)) (iy : IVec S_ 32) (h0 : ∀ i, iy i = 0#32)
    (h : S1x20736x3.ReducesTo [2] S1x20736) (hu : 0 < S_.numel) (a : Fin 20736) :
    (Host.argReduce (F := Ideal) (φ := .f32) reducer_argmax_f32_i32 x y ix iy h hu (ix2 0 a)).2
      = if max (x (ix3 0 a 0)) (x (ix3 0 a 1)) < x (ix3 0 a 2) then 2#32 else if x (ix3 0 a 0) < x (ix3 0 a 1) then 1#32 else 0#32 := by
  rw [Ideal.argReduce_eq_reduce2, Host.reduce2_eq_foldl_fiber]
  unfold Host.argReduceFiber
  rw [places]
  simp only [List.map_cons, List.map_nil, List.foldl_cons, List.foldl_nil, Equiv.symm_apply_apply, hx, h0, hy]
  refine (congrArg (fun q => (reducer_argmax_f32_i32 (F := Ideal) (reducer_argmax_f32_i32 (F := Ideal) q _) _).2) (step0 _)).trans ?_
  refine (congrArg (fun q => (reducer_argmax_f32_i32 (F := Ideal) q _).2) (step _ _ _ _ (by decide))).trans ?_
  refine (congrArg (fun q => Prod.snd q) (step _ _ _ _ (by split_ifs <;> decide))).trans ?_
  rfl

end Cert.Arg

end
-- ==== Proof.RDet.lean ====
/-
  The reference's detection rows: what its host lines compute at one position.
-/
module

public import proofs.«01_k».proof.Proof.RefFrame
public import proofs.«01_k».proof.Proof.Top
public import proofs.«01_k».proof.Proof.Det
public import proofs.«01_k».proof.Proof.Arg

@[expose] public section

set_option maxRecDepth 16384

noncomputable section

namespace Cert.ReferenceIdeal.Read

open Cert.ReferenceIdeal Cert.ReferenceIdeal.Gen Cert.Nms Cert.Det
open Idealize.ShloMosaic Idealize.ShloMosaic.TcCoe

/-- The bottom word. -/
theorem ofBits_bot : Ideal.ofBits .f32 0xFF800000#32 = ⊥ := by
  simp [Ideal.ofBits, Ideal.ieee]

/-- A maximum over three. -/
theorem fold3 (f : Fin 3 → EReal) : Finset.univ.fold max ⊥ f = max (f 0) (max (f 1) (f 2)) := by
  rw [show (Finset.univ : Finset (Fin 3)) = {0, 1, 2} from rfl, Finset.fold_insert (by decide), Finset.fold_insert (by decide), Finset.fold_singleton]
  simp

variable (V : Valuation τ sig (Elt Ideal))

/-- One position's predictions and anchor. -/
def gR (a : Fin 20736) (i : Fin 8) : EReal := (V (Proc.devRef .tc main_arg0) : Vec Ideal S1x20736x8 .f32) (ix3 0 a i)
def aR (a : Fin 20736) (i : Fin 4) : EReal := (V (Proc.devRef .tc main_arg1) : Vec Ideal S20736x4 .f32) (ix2 a i)

theorem probs_at (a : Fin 20736) (j : Fin 3) :
    (StableHlo.after hostOps0 V (Proc.devRef .tc main_v11) : Vec Ideal S1x20736x3 .f32) (ix3 0 a j) = prob (gR V a) ⟨j.val, by omega⟩ := by
  after_results
  pointwise
  rw [ofBits_bot, fold3, Fin.sum_univ_three, bot_sup_eq]
  rfl

theorem obj_at (a : Fin 20736) :
    (StableHlo.after hostOps0 V (Proc.devRef .tc main_v19) : Vec Ideal S1x20736 .f32) (ix2 0 a) = obj (gR V a) := by
  after_results
  unfold obj Ideal.logistic gR
  pointwise

theorem boxes_at (a : Fin 20736) (j : Fin 4) :
    (StableHlo.after hostOps0 V (Proc.devRef .tc main_v71) : Vec Ideal S1x20736x4 .f32) (ix3 0 a j) = ![bx1 (gR V a) (aR V a), by1 (gR V a) (aR V a), bx2 (gR V a) (aR V a), by2 (gR V a) (aR V a)] j := by
  after_results
  fin_cases j
  all_goals
    pointwise
    after_results_simp
    pointwise
    rfl

/-! The arg-max over the classes. -/

theorem argmax_at (a : Fin 20736) (p : Fin 3 → EReal) (hp : ∀ j, (V (Proc.devRef .tc main_v11) : Vec Ideal S1x20736x3 .f32) (ix3 0 a j) = p j) :
    (StableHlo.after hostOps0_1 V (Proc.devRef .tc main_v72) : IVec S1x20736 32) (ix2 0 a)
      = open Classical in if max (p 0) (p 1) < p 2 then 2#32 else if p 0 < p 1 then 1#32 else 0#32 := by
  rw [← hp, ← hp, ← hp]
  after_results
  exact Arg.argmax _ _ (fun _ _ => rfl) _ (fun _ => ofBits_bot) _ (fun _ => rfl) _ _ a

theorem keep1_v11 : StableHlo.after hostOps0_1 V (Proc.devRef .tc main_v11) = V (Proc.devRef .tc main_v11) := by after_results
theorem keep1_v19 : StableHlo.after hostOps0_1 V (Proc.devRef .tc main_v19) = V (Proc.devRef .tc main_v19) := by after_results
theorem keep1_v71 : StableHlo.after hostOps0_1 V (Proc.devRef .tc main_v71) = V (Proc.devRef .tc main_v71) := by after_results

/-- The rows of seven. -/
theorem det_at (a : Fin 20736) (b : Fin 4 → EReal) (o : EReal) (n : BitVec 32) (p : Fin 3 → EReal)
    (hb : ∀ j, (V (Proc.devRef .tc main_v71) : Vec Ideal S1x20736x4 .f32) (ix3 0 a j) = b j)
    (ho : (V (Proc.devRef .tc main_v19) : Vec Ideal S1x20736 .f32) (ix2 0 a) = o)
    (hn : (V (Proc.devRef .tc main_v72) : IVec S1x20736 32) (ix2 0 a) = n)
    (hp : ∀ j, (V (Proc.devRef .tc main_v11) : Vec Ideal S1x20736x3 .f32) (ix3 0 a j) = p j) (j : Fin 7) :
    (StableHlo.after hostOps0_2 V (Proc.devRef .tc main_v79) : Vec Ideal S20736x7 .f32) (ix2 a j)
      = ![b 0, b 1, b 2, b 3, o, ((n.toInt : ℝ) : EReal), max (p 0) (max (p 1) (p 2))] j := by
  rw [← hb, ← hb, ← hb, ← hb, ← ho, ← hn, ← hp, ← hp, ← hp]
  after_results
  fin_cases j
  all_goals
    pointwise
    after_results_simp
    try pointwise
    try rfl
  exact ofBits_bot ▸ fold3 _

/-- The negated objectness, the sort's key. -/
theorem neg_at (a : Fin 20736) (o : EReal)
    (ho : (V (Proc.devRef .tc main_v19) : Vec Ideal S1x20736 .f32) (ix2 0 a) = o) :
    (StableHlo.after hostOps0_2 V (Proc.devRef .tc main_v82) : Vec Ideal S20736 .f32) (ix1 a) = -o := by
  rw [← ho]
  after_results
  pointwise
  after_results_simp
  try pointwise
  try rfl

/-- The class number as a float. -/
theorem cls_eq (g : Fin 8 → EReal) :
    ((((open Classical in if max (prob g 0) (prob g 1) < prob g 2 then 2#32 else if prob g 0 < prob g 1 then 1#32 else 0#32 : BitVec 32).toInt : ℝ)) : EReal) = cls g := by
  unfold cls
  split_ifs
  · simp [Ideal.ofBits, Ideal.ieee]
    rw [← EReal.coe_mul]
    norm_num
  · simp
  · simp

/-- The lines up to the sort. -/
def V2 : Valuation τ sig (Elt Ideal) := StableHlo.after hostOps0_2 (StableHlo.after hostOps0_1 (StableHlo.after hostOps0 V))

theorem det (a : Fin 20736) (j : Fin 7) : (V2 V (Proc.devRef .tc main_v79) : Vec Ideal S20736x7 .f32) (ix2 a j) = field (gR V a) (aR V a) j := by
  unfold V2
  refine (det_at _ a _ _ _ _ (fun j => (congrFun (keep1_v71 _) _).trans (boxes_at V a j)) ((congrFun (keep1_v19 _) _).trans (obj_at V a))
    (argmax_at _ a _ fun j => probs_at V a j) (fun j => (congrFun (keep1_v11 _) _).trans (probs_at V a j)) j).trans ?_
  unfold field score
  rw [← cls_eq]
  rfl

theorem neg (a : Fin 20736) : (V2 V (Proc.devRef .tc main_v82) : Vec Ideal S20736 .f32) (ix1 a) = -obj (gR V a) :=
  neg_at _ a _ ((congrFun (keep1_v19 _) _).trans (obj_at V a))

end Cert.ReferenceIdeal.Read

end
-- ==== Proof.RSel.lean ====
/-
  The reference's candidates: its sort of the positions, the rows it takes, and their overlaps.
-/
module

public import proofs.«01_k».proof.Proof.RDet
public import proofs.«01_k».proof.Proof.Take

@[expose] public section

set_option maxRecDepth 16384

noncomputable section

namespace Cert.ReferenceIdeal.Read

open Cert.ReferenceIdeal Cert.ReferenceIdeal.Gen Cert.Nms Cert.Det
open Idealize.ShloMosaic Idealize.ShloMosaic.TcCoe

/-- The sort's comparison is the plain one. -/
theorem less (u v : EReal) (i k : BitVec 32) : comparator_f32_i32_d0 (F := Ideal) (u, i) (v, k) = BitVec.ofBool (decide (u < v)) := by
  have zero : (FloatOps.ofBits FTy.f32 0x00000000#32 : Ideal .f32) = (0 : EReal) := Ideal.ofBits_zero_f32
  have sel : ∀ w : EReal, Scalar.select (FloatOps.cmpf (F := Ideal) (φ := .f32) .une w w) (FloatOps.ofBits FTy.f32 0x7FC00000#32 : Ideal .f32)
      (Scalar.select (FloatOps.cmpf (F := Ideal) (φ := .f32) .oeq w (FloatOps.ofBits FTy.f32 0x00000000#32 : Ideal .f32)) (FloatOps.ofBits FTy.f32 0x00000000#32 : Ideal .f32) w) = w := fun w => by
    rw [zero]
    by_cases h : w = 0
    · subst h; simp [Ideal.cmpf_def, Ideal.cmp, Scalar.select]
    · simp [Ideal.cmpf_def, Ideal.cmp, Scalar.select, h]
  show FloatOps.cmpfTotal (F := Ideal) (φ := .f32) .lt _ _ = _
  rw [sel, sel]
  rfl

variable (V : Valuation τ sig (Elt Ideal))

theorem sorted_at (key : Fin 20736 → EReal) (hk : ∀ a, (V (Proc.devRef .tc main_v82) : Vec Ideal S20736 .f32) (ix1 a) = -key a) (a : Fin 20736) :
    (StableHlo.after hostOps0_3 V (Proc.devRef .tc main_v83) : IVec S20736 32) (ix1 a) = BitVec.ofNat 32 (Top.place key a).val := by
  after_results
  refine Top.sort_at (comparator_f32_i32_d0 (F := Ideal)) (V (Proc.devRef .tc main_v82) : Vec Ideal S20736 .f32) _ key (fun a b => ?_) (fun _ => rfl) a
  rw [less, hk, hk]
  simp only [EReal.neg_lt_neg_iff]

theorem first_at (k : Fin 1024) :
    (StableHlo.after hostOps0_4 V (Proc.devRef .tc main_v84) : IVec S1024 32) (ix1 k) = (V (Proc.devRef .tc main_v83) : IVec S20736 32) (ix1 ⟨k.val, by omega⟩) := by
  after_results
  pointwise

theorem take_at (p : Fin 1024 → Fin 20736) (hp : ∀ k, (V (Proc.devRef .tc main_v84) : IVec S1024 32) (ix1 k) = BitVec.ofNat 32 (p k).val) (k : Fin 1024) (j : Fin 7) :
    (StableHlo.after hostOps0_5 V (Proc.devRef .tc main_v85) : Vec Ideal S1024x7 .f32) (ix2 k j)
      = (V (Proc.devRef .tc main_v79) : Vec Ideal S20736x7 .f32) (ix2 (p k) j) := by
  after_results
  exact Take.take gather_S20736x7_S1024x1_S1024x7_1_0_n_n_0_1_17 rfl rfl rfl rfl rfl _ (broadcastInDim S1024 ![] bcast_S_S1024 (constantI S_ 32 0#32))
    (broadcastInDim S1024 ![] bcast_S_S1024 (constantI S_ 32 20736#32)) (fun _ => rfl) (V (Proc.devRef .tc main_v84) : IVec S1024 32)
    bcast_S1024_S1024x1_0 _ _ (fun _ => rfl) (fun _ => rfl) _ (fun _ => rfl) reducesTo_S1024x1_S1024_d1 h_S_ bcast_S1024_S1024x7_0 _ p hp k j

theorem keep3_v79 : StableHlo.after hostOps0_3 V (Proc.devRef .tc main_v79) = V (Proc.devRef .tc main_v79) := by after_results
theorem keep4_v79 : StableHlo.after hostOps0_4 V (Proc.devRef .tc main_v79) = V (Proc.devRef .tc main_v79) := by after_results

/-- The predictions and the anchors. -/
abbrev X : Vec Ideal S1x20736x8 .f32 := V (Proc.devRef .tc main_arg0)
abbrev N : Vec Ideal S20736x4 .f32 := V (Proc.devRef .tc main_arg1)

/-- The lines up to the take. -/
def V5 : Valuation τ sig (Elt Ideal) := StableHlo.after hostOps0_5 (StableHlo.after hostOps0_4 (StableHlo.after hostOps0_3 (V2 V)))

/-- The rows taken. -/
theorem taken (k : Fin 1024) (j : Fin 7) :
    (V5 V (Proc.devRef .tc main_v85) : Vec Ideal S1024x7 .f32) (ix2 k j) = field (Top.row (X V) k.val) (Top.anchor (X V) (N V) k.val) j := by
  unfold V5
  refine (take_at _ (fun k => Top.at_ (X V) k.val) (fun k => ?_) k j).trans ?_
  · rw [Top.at_eq]
    exact (first_at _ k).trans (sorted_at _ (Top.key (X V)) (fun a => neg V a) _)
  · exact (congrFun ((keep4_v79 _).trans (keep3_v79 _)) _).trans (det V _ j)

/-- The lines from the take to the loop. -/
def V14 (U : Valuation τ sig (Elt Ideal)) : Valuation τ sig (Elt Ideal) :=
  StableHlo.after hostOps0_14 (StableHlo.after hostOps0_13 (StableHlo.after hostOps0_12 (StableHlo.after hostOps0_11 (StableHlo.after hostOps0_10
    (StableHlo.after hostOps0_9 (StableHlo.after hostOps0_8 (StableHlo.after hostOps0_7 (StableHlo.after hostOps0_6 U))))))))

theorem iou_at (g : Fin 1024 → Fin 7 → EReal) (hg : ∀ k j, (V (Proc.devRef .tc main_v85) : Vec Ideal S1024x7 .f32) (ix2 k j) = g k j) (i k : Fin 1024) :
    (V14 V (Proc.devRef .tc main_v142_1) : Vec Ideal S1024x1024 .f32) (ix2 i k)
      = KernelIdeal.Block.iouE (g i 0) (g i 1) (g i 2) (g i 3) (max 0 (g i 2 - g i 0) * max 0 (g i 3 - g i 1)) (g k 0) (g k 1) (g k 2) (g k 3) (max 0 (g k 2 - g k 0) * max 0 (g k 3 - g k 1)) := by
  simp only [← hg]
  unfold V14
  after_results
  simp only [StableHlo.TRef.toBuf, StableHlo.TRef.ofBuf, cast_eq, id]
  pointwise
  rfl

/-- The overlaps of the rows taken. -/
theorem overlap_at (G : ℕ → Fin 8 → EReal) (A : ℕ → Fin 4 → EReal)
    (hg : ∀ k j, (V (Proc.devRef .tc main_v85) : Vec Ideal S1024x7 .f32) (ix2 k j) = field (G k.val) (A k.val) j) (i k : Fin 1024) :
    (V14 V (Proc.devRef .tc main_v142_1) : Vec Ideal S1024x1024 .f32) (ix2 i k) = overlap (G i.val) (A i.val) (G k.val) (A k.val) :=
  iou_at V (fun k => field (G k.val) (A k.val)) hg i k

theorem order_at (k : Fin 1024) : (V14 V (Proc.devRef .tc main_v142_0) : IVec S1024 32) (ix1 k) = BitVec.ofNat 32 k.val := by
  unfold V14
  after_results
  simp only [id]
  pointwise

theorem order'_at (k : Fin 1024) : (V14 V (Proc.devRef .tc main_v142_2) : IVec S1024 32) (ix1 k) = BitVec.ofNat 32 k.val := by
  unfold V14
  after_results
  simp only [id]
  pointwise

theorem start_at (i : S_.Idx) : (V14 V (Proc.devRef .tc main_v142_3) : IVec S_ 32) i = 0#32 := by
  unfold V14
  after_results
  rfl

theorem all_at (k : Fin 1024) : (V14 V (Proc.devRef .tc main_v142_4) : IVec S1024 1) (ix1 k) = 1#1 := by
  unfold V14
  after_results
  simp only [id]
  pointwise

theorem box_at (k : Fin 1024) (j : Fin 4) : (V14 V (Proc.devRef .tc main_v86) : Vec Ideal S1024x4 .f32) (ix2 k j)
    = (V (Proc.devRef .tc main_v85) : Vec Ideal S1024x7 .f32) (ix2 k (Fin.castLE (by decide) j)) := by
  unfold V14
  after_results
  pointwise
  rfl

theorem sure_at (k : Fin 1024) : (V14 V (Proc.devRef .tc main_v88) : Vec Ideal S1024 .f32) (ix1 k)
    = (V (Proc.devRef .tc main_v85) : Vec Ideal S1024x7 .f32) (ix2 k 4) := by
  unfold V14
  after_results
  pointwise

theorem kind_at (k : Fin 1024) : (V14 V (Proc.devRef .tc main_v90) : Vec Ideal S1024 .f32) (ix1 k)
    = (V (Proc.devRef .tc main_v85) : Vec Ideal S1024x7 .f32) (ix2 k 5) := by
  unfold V14
  after_results
  pointwise

theorem score_at (k : Fin 1024) : (V14 V (Proc.devRef .tc main_v92) : Vec Ideal S1024 .f32) (ix1 k)
    = (V (Proc.devRef .tc main_v85) : Vec Ideal S1024x7 .f32) (ix2 k 6) := by
  unfold V14
  after_results
  pointwise

end Cert.ReferenceIdeal.Read

end
-- ==== Proof.RTrip.lean ====
/-
  One trip of the reference's loop: it takes the trip's box, the row of its overlaps and its own bit, and clears the bits of
  the later boxes it overlaps too much.
-/
module

public import proofs.«01_k».proof.Proof.RSel
public import Idealize.ShloMosaic.Lib.DynamicIndex

@[expose] public section

set_option maxRecDepth 16384

noncomputable section

namespace Cert.ReferenceIdeal.Read

open Cert.ReferenceIdeal Cert.ReferenceIdeal.Gen Cert.Nms Cert.Det
open Idealize.ShloMosaic Idealize.ShloMosaic.TcCoe

/-- Small numbers as words read signed. -/
theorem signed (i : Fin 1024) : (BitVec.ofNat 32 i.val).toInt = i.val :=
  StableHlo.Predicate.toInt_ofNat_small _ (by have := i.isLt; omega)

/-- A position as the loop passes it to a take: wrapped if negative, as a list of one. -/
abbrev spot (w : IVec S_ 32) : IVec S1 32 :=
  broadcastInDim S1 ![] bcast_S_S1 (select (cmpi .slt w (constantI S_ 32 0#32)) (addi w (constantI S_ 32 1024#32)) w)

/-- The test that it lies inside. -/
abbrev inside (w : IVec S_ 32) : IVec S_ 1 :=
  Host.reduce IntOp.andi (andi (cmpi .sge (spot w) (broadcastInDim S1 ![] bcast_S_S1 (constantI S_ 32 0#32)))
    (cmpi .sle (spot w) (constantI S1 32 1023#32))) (constantI S_ 1 1#1) reducesTo_S1_S_d0 h_S_

theorem spot_eq (w : IVec S_ 32) (i : Fin 1024) (hw : ∀ j, w j = BitVec.ofNat 32 i.val) (z : S1.Idx) : spot w z = BitVec.ofNat 32 i.val := by
  show Scalar.select (IntOp.cmpi .slt (w _) 0#32) (IntOp.addi (w _) 1024#32) (w _) = _
  rw [hw]
  exact Idealize.ShloMosaic.Routing.wrap_of_lt _ _ (by have := i.isLt; rw [BitVec.toNat_ofNat]; omega)

theorem inside_eq (w : IVec S_ 32) (i : Fin 1024) (hw : ∀ j, w j = BitVec.ofNat 32 i.val) (j : S_.Idx) : inside w j = 1#1 := by
  refine Take.reduce_true _ _ _ _ (fun z => ?_) (fun _ => rfl) j
  show IntOp.andi (IntOp.cmpi .sge (spot w z) 0#32) (IntOp.cmpi .sle (spot w z) 1023#32) = 1#1
  rw [spot_eq w i hw]
  have h := i.isLt
  have e := signed i
  have e0 : (0#32).toInt = 0 := by decide
  have e1 : (1023#32).toInt = 1023 := by decide
  show IntOp.andi (BitVec.ofBool (decide ((0#32).toInt ≤ (BitVec.ofNat 32 i.val).toInt))) (BitVec.ofBool (decide ((BitVec.ofNat 32 i.val).toInt ≤ (1023#32).toInt))) = 1#1
  rw [e, e0, e1, decide_eq_true (by omega), decide_eq_true (by omega)]
  rfl

theorem slice_one {α : Type} (x : S1024.Idx → α) (start : Fin 1 → Int) (i : Fin 1024) (hs : ∀ a, start a = i.val) (h : S1024.Slices (fun _ => 0) S1) (z : S1.Idx) :
    Host.dynamicSlice S1 x start h z = x (ix1 i) := by
  have hi := i.isLt
  have hz : (z 0).val = 0 := by have : (z 0).val < 1 := (z 0).isLt; omega
  rw [Host.dynamicSlice_eq_extractStridedSlice S1 x start (fun _ => i.val) h ⟨rfl, fun a => by
    match a with
    | ⟨0, _⟩ => show i.val + 1 ≤ 1024; omega⟩ hs]
  unfold extractStridedSlice
  refine congrArg x (funext fun a => Fin.ext ?_)
  match a with
  | ⟨0, _⟩ =>
    show i.val + (z 0).val = i.val
    omega

theorem gather_line {α : Type} (x : S1024x1024.Idx → α) (p : IVec S1 32) (i : Fin 1024) (hp : ∀ z, p z = BitVec.ofNat 32 i.val) (k : Fin 1024) :
    Host.gather gather_S1024x1024_S1_S1024_0_0_n_n_0_0_11024 x p (ix1 k) = x (ix2 i k) := by
  have h := i.isLt
  unfold Host.gather
  refine congrArg x (funext fun a => Fin.ext ?_)
  match a with
  | ⟨0, _⟩ =>
    show GatherDims.start _ (ix1 k) p 0 + GatherDims.batchCoord _ (ix1 k) 0 + GatherDims.offCoord _ (ix1 k) 0 = i.val
    rw [GatherDims.batchCoord_eq_zero _ _ _ (by decide), GatherDims.offCoord_eq_zero _ _ _ (by decide)]
    unfold GatherDims.start
    rw [dif_pos (by decide), hp, signed]
    show min ((i.val : Int)).toNat (1024 - 1) + 0 + 0 = i.val
    omega
  | ⟨1, _⟩ =>
    show GatherDims.start _ (ix1 k) p 1 + GatherDims.batchCoord _ (ix1 k) 1 + GatherDims.offCoord _ (ix1 k) 1 = k.val
    rw [GatherDims.batchCoord_eq_zero _ _ _ (by decide)]
    unfold GatherDims.start GatherDims.offCoord
    rw [dif_neg (by decide), dif_pos (by decide), Nat.zero_add]
    rfl

theorem gather_bit {α : Type} (x : S1024.Idx → α) (p : IVec S1 32) (i : Fin 1024) (hp : ∀ z, p z = BitVec.ofNat 32 i.val) (j : S_.Idx) :
    Host.gather gather_S1024_S1_S__n_0_n_n_0_0_1 x p j = x (ix1 i) := by
  have h := i.isLt
  unfold Host.gather
  refine congrArg x (funext fun a => Fin.ext ?_)
  match a with
  | ⟨0, _⟩ =>
    show GatherDims.start _ j p 0 + GatherDims.batchCoord _ j 0 + GatherDims.offCoord _ j 0 = i.val
    rw [GatherDims.batchCoord_eq_zero _ _ _ (by decide), GatherDims.offCoord_eq_zero _ _ _ (by decide)]
    unfold GatherDims.start
    rw [dif_pos (by decide), hp, signed]
    show min ((i.val : Int)).toNat (1024 - 1) + 0 + 0 = i.val
    omega

theorem line_eq {α : Type} (x : S1024x1024.Idx → α) (nan : S1024.Idx → α) (w : IVec S_ 32) (i : Fin 1024) (hw : ∀ j, w j = BitVec.ofNat 32 i.val) (k : Fin 1024) :
    select (broadcastInDim S1024 ![] bcast_S_S1024 (inside w)) (Host.gather gather_S1024x1024_S1_S1024_0_0_n_n_0_0_11024 x (spot w)) nan (ix1 k) = x (ix2 i k) := by
  show Scalar.select (inside w _) (Host.gather _ x (spot w) (ix1 k)) (nan (ix1 k)) = _
  rw [inside_eq w i hw, gather_line x _ i (spot_eq w i hw)]
  rfl

theorem bit_eq {α : Type} (x : S1024.Idx → α) (one : S_.Idx → α) (w : IVec S_ 32) (i : Fin 1024) (hw : ∀ j, w j = BitVec.ofNat 32 i.val) (j : S_.Idx) :
    select (inside w) (Host.gather gather_S1024_S1_S__n_0_n_n_0_0_1 x (spot w)) one j = x (ix1 i) := by
  show Scalar.select (inside w j) (Host.gather _ x (spot w) j) (one j) = _
  rw [inside_eq w i hw, gather_bit x _ i (spot_eq w i hw)]
  rfl

variable (V : Valuation τ sig (Elt Ideal))

/-- The trip's box. -/
theorem turn (i : Fin 1024) (h3 : (V (Proc.devRef .tc main_v142_3) : IVec S_ 32) = fun _ => BitVec.ofNat 32 i.val)
    (h0 : ∀ k, (V (Proc.devRef .tc main_v142_0) : IVec S1024 32) (ix1 k) = BitVec.ofNat 32 k.val) (j : S_.Idx) :
    (StableHlo.after while0Ops0 V (Proc.devRef .tc main_while0b_v155) : IVec S_ 32) j = BitVec.ofNat 32 i.val := by
  rw [← h0 i]
  after_results
  simp only [StableHlo.TRef.toBuf, StableHlo.TRef.ofBuf, cast_eq]
  refine slice_one (V (Proc.devRef .tc main_v142_0) : IVec S1024 32) _ i (fun a => ?_) sliceFits_S1024_S1 _
  match a with
  | ⟨0, _⟩ => exact (congrArg BitVec.toInt (congrFun h3 _)).trans (signed i)

/-- The row of its overlaps. -/
theorem line (i : Fin 1024) (hw : ∀ j, (V (Proc.devRef .tc main_while0b_v155) : IVec S_ 32) j = BitVec.ofNat 32 i.val) (k : Fin 1024) :
    (StableHlo.after while0Ops0_1 V (Proc.devRef .tc main_while0b_v156) : Vec Ideal S1024 .f32) (ix1 k)
      = (V (Proc.devRef .tc main_v142_1) : Vec Ideal S1024x1024 .f32) (ix2 i k) := by
  after_results
  exact line_eq _ _ _ i hw k

/-- Its own bit. -/
theorem bit (i : Fin 1024) (hw : ∀ j, (V (Proc.devRef .tc main_while0b_v155) : IVec S_ 32) j = BitVec.ofNat 32 i.val) (j : S_.Idx) :
    (StableHlo.after while0Ops0_2 V (Proc.devRef .tc main_while0b_v157) : IVec S_ 1) j
      = (V (Proc.devRef .tc main_v142_4) : IVec S1024 1) (ix1 i) := by
  after_results
  exact bit_eq _ _ _ i hw j

/-- A bit after the trip: it stays unless the trip's box is kept, comes first and overlaps it too much. -/
theorem cleared (w : BitVec 1) (o : EReal) (i k : Fin 1024) (b : BitVec 1) :
    IntOp.andi w (~~~(IntOp.andi (IntOp.andi (FloatOps.cmpf (F := Ideal) (φ := .f32) .ogt o (FloatOps.ofBits .f32 0x3E4CCCCD#32))
      (IntOp.cmpi .sgt (BitVec.ofNat 32 k.val) (BitVec.ofNat 32 i.val))) b)) = 1#1
      ↔ w = 1#1 ∧ ¬ (KernelIdeal.Block.thr < o ∧ i.val < k.val ∧ b = 1#1) := by
  have e : FloatOps.cmpf (F := Ideal) (φ := .f32) .ogt o (FloatOps.ofBits .f32 0x3E4CCCCD#32) = BitVec.ofBool (decide (KernelIdeal.Block.thr < o)) := rfl
  have e' : IntOp.cmpi .sgt (BitVec.ofNat 32 k.val) (BitVec.ofNat 32 i.val) = BitVec.ofBool (decide (i.val < k.val)) := by
    show BitVec.ofBool (decide ((BitVec.ofNat 32 i.val).toInt < (BitVec.ofNat 32 k.val).toInt)) = _
    rw [signed, signed]
    simp only [Nat.cast_lt]
  rw [e, e']
  have hw : w = 0#1 ∨ w = 1#1 := by revert w; decide
  have hb : b = 0#1 ∨ b = 1#1 := by revert b; decide
  by_cases hP : KernelIdeal.Block.thr < o <;> by_cases hQ : i.val < k.val <;> rcases hw with rfl | rfl <;> rcases hb with rfl | rfl <;>
    simp [hP, hQ, IntOp.andi]

theorem bits (i : Fin 1024) (hw : ∀ j, (V (Proc.devRef .tc main_while0b_v155) : IVec S_ 32) j = BitVec.ofNat 32 i.val)
    (h2 : ∀ k, (V (Proc.devRef .tc main_v142_2) : IVec S1024 32) (ix1 k) = BitVec.ofNat 32 k.val)
    (o : EReal) (k : Fin 1024) (ho : (V (Proc.devRef .tc main_while0b_v156) : Vec Ideal S1024 .f32) (ix1 k) = o)
    (b : BitVec 1) (hb : ∀ j, (V (Proc.devRef .tc main_while0b_v157) : IVec S_ 1) j = b) :
    (StableHlo.after while0Ops0_3 V (Proc.devRef .tc main_v142_4) : IVec S1024 1) (ix1 k) = 1#1
      ↔ (V (Proc.devRef .tc main_v142_4) : IVec S1024 1) (ix1 k) = 1#1 ∧ ¬ (KernelIdeal.Block.thr < o ∧ i.val < k.val ∧ b = 1#1) := by
  after_results
  simp only [id]
  show IntOp.andi ((V (Proc.devRef .tc main_v142_4) : IVec S1024 1) (ix1 k)) (~~~(IntOp.andi (IntOp.andi
    (FloatOps.cmpf (F := Ideal) (φ := .f32) .ogt ((V (Proc.devRef .tc main_while0b_v156) : Vec Ideal S1024 .f32) (ix1 k)) (FloatOps.ofBits .f32 0x3E4CCCCD#32))
    (IntOp.cmpi .sgt ((V (Proc.devRef .tc main_v142_2) : IVec S1024 32) (ix1 k)) ((V (Proc.devRef .tc main_while0b_v155) : IVec S_ 32) _)))
    ((V (Proc.devRef .tc main_while0b_v157) : IVec S_ 1) _))) = 1#1 ↔ _
  rw [h2, hw, ho, hb]
  exact cleared _ o i k b

end Cert.ReferenceIdeal.Read

end
-- ==== Proof.RLoop.lean ====
/-
  The reference's loop: before its n-th trip the bit of box k says that the first n steps of the greedy suppression keep it.
-/
module

public import proofs.«01_k».proof.Proof.RTrip
public import proofs.«01_k».proof.Proof.RefFrame

@[expose] public section

set_option maxRecDepth 16384

noncomputable section

namespace Cert.ReferenceIdeal.Read

open Cert.ReferenceIdeal Cert.ReferenceIdeal.Gen Cert.ReferenceIdeal.Value Cert.Nms Cert.Det
open Idealize.ShloMosaic Idealize.ShloMosaic.TcCoe Idealize.ShloMosaic.StableHlo

/-- The order of the two boxes is no matter to their overlap. -/
theorem overlap_comm (g : Fin 8 → EReal) (a : Fin 4 → EReal) (g' : Fin 8 → EReal) (a' : Fin 4 → EReal) : overlap g a g' a' = overlap g' a' g a :=
  KernelIdeal.Block.iouE_comm ..

/-- One trip: the bits move from `n` steps to `n + 1`. -/
theorem trip (V : Valuation τ sig (Elt Ideal)) (G : ℕ → Fin 8 → EReal) (A : ℕ → Fin 4 → EReal) (i : Fin 1024)
    (h3 : (V (Proc.devRef .tc main_v142_3) : IVec S_ 32) = fun _ => BitVec.ofNat 32 i.val)
    (h0 : ∀ k, (V (Proc.devRef .tc main_v142_0) : IVec S1024 32) (ix1 k) = BitVec.ofNat 32 k.val)
    (h1 : ∀ i k : Fin 1024, (V (Proc.devRef .tc main_v142_1) : Vec Ideal S1024x1024 .f32) (ix2 i k) = overlap (G i.val) (A i.val) (G k.val) (A k.val))
    (h2 : ∀ k, (V (Proc.devRef .tc main_v142_2) : IVec S1024 32) (ix1 k) = BitVec.ofNat 32 k.val)
    (h4 : ∀ k : Fin 1024, (V (Proc.devRef .tc main_v142_4) : IVec S1024 1) (ix1 k) = 1#1 ↔ alive (Over G A) i.val k.val) (k : Fin 1024) :
    (afterL bodyI (after condOps V) (Proc.devRef .tc main_v142_4) : IVec S1024 1) (ix1 k) = 1#1 ↔ alive (Over G A) (i.val + 1) k.val := by
  simp only [afterL_cons, afterL_nil]
  have c3 : after condOps V (Proc.devRef .tc main_v142_3) = V (Proc.devRef .tc main_v142_3) := after_of_writes_sub condOps _ condOps_writes (by decide +kernel)
  have c0 : after condOps V (Proc.devRef .tc main_v142_0) = V (Proc.devRef .tc main_v142_0) := after_of_writes_sub condOps _ condOps_writes (by decide +kernel)
  have c1 : after condOps V (Proc.devRef .tc main_v142_1) = V (Proc.devRef .tc main_v142_1) := after_of_writes_sub condOps _ condOps_writes (by decide +kernel)
  have c2 : after condOps V (Proc.devRef .tc main_v142_2) = V (Proc.devRef .tc main_v142_2) := after_of_writes_sub condOps _ condOps_writes (by decide +kernel)
  have c4 : after condOps V (Proc.devRef .tc main_v142_4) = V (Proc.devRef .tc main_v142_4) := after_of_writes_sub condOps _ condOps_writes (by decide +kernel)
  rw [← c3] at h3
  simp only [← c0] at h0
  simp only [← c1] at h1
  simp only [← c2] at h2
  simp only [← c4] at h4
  clear c0 c1 c2 c3 c4
  generalize after condOps V = U0 at *
  have hw := turn U0 i h3 h0
  have d1 : after while0Ops0 U0 (Proc.devRef .tc main_v142_1) = U0 (Proc.devRef .tc main_v142_1) := after_of_writes_sub while0Ops0 _ while0Ops0_writes (by decide +kernel)
  have d2 : after while0Ops0 U0 (Proc.devRef .tc main_v142_2) = U0 (Proc.devRef .tc main_v142_2) := after_of_writes_sub while0Ops0 _ while0Ops0_writes (by decide +kernel)
  have d4 : after while0Ops0 U0 (Proc.devRef .tc main_v142_4) = U0 (Proc.devRef .tc main_v142_4) := after_of_writes_sub while0Ops0 _ while0Ops0_writes (by decide +kernel)
  simp only [← d1] at h1
  simp only [← d2] at h2
  simp only [← d4] at h4
  clear d1 d2 d4 h0 h3
  generalize after while0Ops0 U0 = U1 at *
  have hl : ∀ k : Fin 1024, (after while0Ops0_1 U1 (Proc.devRef .tc main_while0b_v156) : Vec Ideal S1024 .f32) (ix1 k) = overlap (G i.val) (A i.val) (G k.val) (A k.val) :=
    fun k => (line U1 i hw k).trans (h1 i k)
  have e2 : after while0Ops0_1 U1 (Proc.devRef .tc main_v142_2) = U1 (Proc.devRef .tc main_v142_2) := after_of_writes_sub while0Ops0_1 _ while0Ops0_1_writes (by decide +kernel)
  have e4 : after while0Ops0_1 U1 (Proc.devRef .tc main_v142_4) = U1 (Proc.devRef .tc main_v142_4) := after_of_writes_sub while0Ops0_1 _ while0Ops0_1_writes (by decide +kernel)
  have ew : after while0Ops0_1 U1 (Proc.devRef .tc main_while0b_v155) = U1 (Proc.devRef .tc main_while0b_v155) := after_of_writes_sub while0Ops0_1 _ while0Ops0_1_writes (by decide +kernel)
  simp only [← e2] at h2
  simp only [← e4] at h4
  simp only [← ew] at hw
  clear e2 e4 ew h1
  generalize after while0Ops0_1 U1 = U2 at *
  have hb := bit U2 i hw
  have f2 : after while0Ops0_2 U2 (Proc.devRef .tc main_v142_2) = U2 (Proc.devRef .tc main_v142_2) := after_of_writes_sub while0Ops0_2 _ while0Ops0_2_writes (by decide +kernel)
  have f4 : after while0Ops0_2 U2 (Proc.devRef .tc main_v142_4) = U2 (Proc.devRef .tc main_v142_4) := after_of_writes_sub while0Ops0_2 _ while0Ops0_2_writes (by decide +kernel)
  have fw : after while0Ops0_2 U2 (Proc.devRef .tc main_while0b_v155) = U2 (Proc.devRef .tc main_while0b_v155) := after_of_writes_sub while0Ops0_2 _ while0Ops0_2_writes (by decide +kernel)
  have fl : after while0Ops0_2 U2 (Proc.devRef .tc main_while0b_v156) = U2 (Proc.devRef .tc main_while0b_v156) := after_of_writes_sub while0Ops0_2 _ while0Ops0_2_writes (by decide +kernel)
  simp only [← f2] at h2
  simp only [← fw] at hw
  simp only [← fl] at hl
  have h4' := h4 i
  simp only [← f4] at h4
  refine (bits _ i hw h2 _ k (hl k) _ hb).trans ?_
  rw [h4, h4', alive_succ]
  unfold Over
  rw [overlap_comm]

variable (m : (ℓ : Loc nD τ sig) → Buf (Elt Ideal) ℓ) (c : Dev nD)

/-- The candidates of the launch's arguments. -/
abbrev rows : ℕ → Fin 8 → EReal := Top.row (X (launchContents m c))
abbrev anchors : ℕ → Fin 4 → EReal := Top.anchor (X (launchContents m c)) (N (launchContents m c))

/-- The values entering the loop. -/
theorem entry_eq : entryContents preI m c = V14 (V5 (launchContents m c)) := rfl

/-- The trip counter as a word. -/
theorem counter (n : ℕ) : atK m n c (Proc.devRef .tc main_v142_3) = fun _ => BitVec.ofNat 32 n := by
  rw [atK_ctr]
  funext _
  simp [Scf.iv]

/-- Before trip `n` the bits are those of `n` steps. -/
theorem kept : ∀ n ≤ 1024, ∀ k : Fin 1024,
    (atK m n c (Proc.devRef .tc main_v142_4) : IVec S1024 1) (ix1 k) = 1#1 ↔ alive (Over (rows m c) (anchors m c)) n k.val
  | 0, _, k => by
    rw [show atK m 0 c = V14 (V5 (launchContents m c)) from rfl]
    exact ⟨fun _ => trivial, fun _ => all_at _ k⟩
  | n + 1, hn, k => by
    have e0 : atK m n c (Proc.devRef .tc main_v142_0) = V14 (V5 (launchContents m c)) (Proc.devRef .tc main_v142_0) :=
      atTrip_keep _ c (by decide +kernel) (by decide +kernel) (by decide +kernel) (by decide +kernel) (by decide +kernel) n
    have e1 : atK m n c (Proc.devRef .tc main_v142_1) = V14 (V5 (launchContents m c)) (Proc.devRef .tc main_v142_1) :=
      atTrip_keep _ c (by decide +kernel) (by decide +kernel) (by decide +kernel) (by decide +kernel) (by decide +kernel) n
    have e2 : atK m n c (Proc.devRef .tc main_v142_2) = V14 (V5 (launchContents m c)) (Proc.devRef .tc main_v142_2) :=
      atTrip_keep _ c (by decide +kernel) (by decide +kernel) (by decide +kernel) (by decide +kernel) (by decide +kernel) n
    rw [show atK m (n + 1) c = afterL bodyI (after condOps (atK m n c)) from rfl]
    refine trip (atK m n c) (rows m c) (anchors m c) ⟨n, hn⟩ (counter m c n) (fun k => ?_) (fun i k => ?_) (fun k => ?_) (kept n (by omega)) k
    · exact (congrFun e0 _).trans (order_at _ k)
    · exact (congrFun e1 _).trans (overlap_at _ (rows m c) (anchors m c) (fun k j => taken _ k j) i k)
    · exact (congrFun e2 _).trans (order'_at _ k)

/-! The lines after the loop. -/

theorem pack_at (V : Valuation τ sig (Elt Ideal)) (f : Fin 7 → EReal) (k : Fin 1024)
    (h86 : ∀ j : Fin 4, (V (Proc.devRef .tc main_v86) : Vec Ideal S1024x4 .f32) (ix2 k j) = f (Fin.castLE (by decide) j))
    (h88 : (V (Proc.devRef .tc main_v88) : Vec Ideal S1024 .f32) (ix1 k) = f 4)
    (h90 : (V (Proc.devRef .tc main_v90) : Vec Ideal S1024 .f32) (ix1 k) = f 5)
    (h92 : (V (Proc.devRef .tc main_v92) : Vec Ideal S1024 .f32) (ix1 k) = f 6) (j : Fin 7) :
    (after hostOps0_15 V (Proc.devRef .tc main_v153) : Vec Ideal S1024x7 .f32) (ix2 k j) = f j := by
  have e : f j = ![f 0, f 1, f 2, f 3, f 4, f 5, f 6] j := by fin_cases j <;> rfl
  rw [e, ← h88, ← h90, ← h92, show f 0 = _ from (h86 0).symm, show f 1 = _ from (h86 1).symm, show f 2 = _ from (h86 2).symm, show f 3 = _ from (h86 3).symm]
  clear e h86 h88 h90 h92
  after_results
  fin_cases j
  all_goals
    pointwise
    after_results_simp
    try pointwise
    try rfl

theorem mask_at (V : Valuation τ sig (Elt Ideal)) (b : BitVec 1) (o s : EReal) (k : Fin 1024)
    (hb : (V (Proc.devRef .tc main_v142_4) : IVec S1024 1) (ix1 k) = b)
    (ho : (V (Proc.devRef .tc main_v88) : Vec Ideal S1024 .f32) (ix1 k) = o)
    (hs : (V (Proc.devRef .tc main_v92) : Vec Ideal S1024 .f32) (ix1 k) = s) (z : Fin 1) :
    (after hostOps0_15 V (Proc.devRef .tc main_v149) : IVec S1024x1 1) (ix2 k z)
      = IntOp.andi (IntOp.andi b (BitVec.ofBool (decide (half < o)))) (BitVec.ofBool (decide (half < s))) := by
  rw [← hb, ← ho, ← hs]
  after_results
  pointwise
  rfl

theorem zero_at (V : Valuation τ sig (Elt Ideal)) (i : S_.Idx) : (after hostOps0_15 V (Proc.devRef .tc main_cst_17) : Vec Ideal S_ .f32) i = (0 : EReal) := by
  after_results
  exact Ideal.ofBits_zero_f32

theorem where_at (V : Valuation τ sig (Elt Ideal)) (k : Fin 1024) (j : Fin 7) (b : BitVec 1) (x : EReal)
    (hb : ∀ z, (V (Proc.devRef .tc main_v149) : IVec S1024x1 1) (ix2 k z) = b)
    (hx : (V (Proc.devRef .tc main_v153) : Vec Ideal S1024x7 .f32) (ix2 k j) = x)
    (h0 : ∀ i, (V (Proc.devRef .tc main_cst_17) : Vec Ideal S_ .f32) i = (0 : EReal)) :
    (after hostOps0_16 V (Proc.devRef .tc main_v154) : Vec Ideal S1024x7 .f32) (ix2 k j) = Scalar.select b x (0 : EReal) := by
  rw [← hb 0, ← hx, ← h0 (fun a => a.elim0)]
  after_results
  simp only [StableHlo.TRef.toBuf, StableHlo.TRef.ofBuf, cast_eq, id]
  pointwise
  rfl

/-- Three bits joined select as the three conditions together. -/
theorem chosen (w : BitVec 1) (o s x : EReal) :
    Scalar.select (IntOp.andi (IntOp.andi w (BitVec.ofBool (decide (half < o)))) (BitVec.ofBool (decide (half < s)))) x (0 : EReal)
      = open Classical in if w = 1#1 ∧ half < o ∧ half < s then x else 0 := by
  have hw : w = 0#1 ∨ w = 1#1 := by revert w; decide
  by_cases h4 : half < o <;> by_cases h6 : half < s <;> rcases hw with rfl | rfl <;> simp [h4, h6, IntOp.andi, Scalar.select]

/-- A row is shown if its bit is set and it is sure enough, else it is zeros. -/
theorem shown (V : Valuation τ sig (Elt Ideal)) (f : Fin 7 → EReal) (k : Fin 1024) (P : Prop)
    (hb : (V (Proc.devRef .tc main_v142_4) : IVec S1024 1) (ix1 k) = 1#1 ↔ P)
    (h86 : ∀ j : Fin 4, (V (Proc.devRef .tc main_v86) : Vec Ideal S1024x4 .f32) (ix2 k j) = f (Fin.castLE (by decide) j))
    (h88 : (V (Proc.devRef .tc main_v88) : Vec Ideal S1024 .f32) (ix1 k) = f 4)
    (h90 : (V (Proc.devRef .tc main_v90) : Vec Ideal S1024 .f32) (ix1 k) = f 5)
    (h92 : (V (Proc.devRef .tc main_v92) : Vec Ideal S1024 .f32) (ix1 k) = f 6) (j : Fin 7) :
    (afterL postI V (Proc.devRef .tc main_v154) : Vec Ideal S1024x7 .f32) (ix2 k j)
      = open Classical in if P ∧ half < f 4 ∧ half < f 6 then f j else 0 := by
  simp only [afterL_cons, afterL_nil]
  rw [where_at _ k j _ _ (mask_at V _ _ _ k rfl h88 h92) (pack_at V f k h86 h88 h90 h92 j) (zero_at V), ← hb]
  refine (chosen _ _ _ _).trans ?_
  congr 1

/-- The reference's result. -/
theorem final (k : Fin 1024) (j : Fin 7) :
    (finalContents condOps preI bodyI postI 1024 m c (Proc.devRef .tc main_v154) : Vec Ideal S1024x7 .f32) (ix2 k j)
      = result (rows m c) (anchors m c) k.val j := by
  have keep : ∀ r : Ref sig .tc, r ∉ condOps_W → r ∉ while0Ops0_W → r ∉ while0Ops0_1_W → r ∉ while0Ops0_2_W → r ∉ while0Ops0_3_W →
      after condOps (atK m 1024 c) (Proc.devRef .tc r) = V14 (V5 (launchContents m c)) (Proc.devRef .tc r) := fun r hc h0 h1 h2 h3 =>
    (after_of_writes_sub condOps _ condOps_writes hc).trans (atTrip_keep _ c hc h0 h1 h2 h3 1024)
  have k86 := keep main_v86 (by decide +kernel) (by decide +kernel) (by decide +kernel) (by decide +kernel) (by decide +kernel)
  have k88 := keep main_v88 (by decide +kernel) (by decide +kernel) (by decide +kernel) (by decide +kernel) (by decide +kernel)
  have k90 := keep main_v90 (by decide +kernel) (by decide +kernel) (by decide +kernel) (by decide +kernel) (by decide +kernel)
  have k92 := keep main_v92 (by decide +kernel) (by decide +kernel) (by decide +kernel) (by decide +kernel) (by decide +kernel)
  have k4 : after condOps (atK m 1024 c) (Proc.devRef .tc main_v142_4) = atK m 1024 c (Proc.devRef .tc main_v142_4) :=
    after_of_writes_sub condOps _ condOps_writes (by decide +kernel)
  refine (shown (after condOps (atK m 1024 c)) (field (rows m c k.val) (anchors m c k.val)) k (alive (Over (rows m c) (anchors m c)) 1024 k.val)
    ?_ (fun j => ?_) ?_ ?_ ?_ j).trans rfl
  · rw [k4]; exact kept m c 1024 le_rfl k
  · exact (congrFun k86 _).trans ((box_at _ k j).trans (taken _ k _))
  · exact (congrFun k88 _).trans ((sure_at _ k).trans (taken _ k _))
  · exact (congrFun k90 _).trans ((kind_at _ k).trans (taken _ k _))
  · exact (congrFun k92 _).trans ((score_at _ k).trans (taken _ k _))

end Cert.ReferenceIdeal.Read

end
-- ==== Proof.Value.lean ====
/-
  The value claim: run over the extended reals on the same arguments, the kernel and the reference end with the same result.
-/
module

public import proofs.«01_k».proof.Defs
public import proofs.«01_k».proof.Proof.KRead
public import proofs.«01_k».proof.Proof.RLoop

@[expose] public section

set_option maxRecDepth 16384

noncomputable section

namespace Cert.Value

open Idealize.ShloMosaic Idealize.ShloMosaic.TcCoe Idealize.SL.Sem Cert.Det

/-- A position of a matrix is the pair of its coordinates. -/
theorem pair (i : (⟨2, ![1024, 7]⟩ : Shape).Idx) : i = ix2 (i 0) (i 1) := by
  funext a
  match a with
  | ⟨0, _⟩ => rfl
  | ⟨1, _⟩ => rfl

/-- The result as the arguments determine it: 1024 rows of seven numbers. -/
def value (X : (⟨3, ![1, 20736, 8]⟩ : Shape).Idx → EReal) (N : (⟨2, ![20736, 4]⟩ : Shape).Idx → EReal) : (⟨2, ![1024, 7]⟩ : Shape).Idx → EReal :=
  fun i => result (Top.row X) (Top.anchor X N) (i 0).val (i 1)

/-- The kernel and the reference both end with `value` of the arguments, the arguments unchanged. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => value (KernelIdeal.Block.X m c) (KernelIdeal.Block.N m c), ?_, ?_⟩
  · refine (θ_run _ _ _).mono (fun r h c => ⟨?_, (h c).2⟩) (KernelIdeal.Block.run m g)
    exact funext fun i => (congrArg _ (pair i)).trans ((h c).1 _ _)
  · refine (θ_run _ _ _).mono (fun r h c => ⟨?_, (h c).2⟩) (ReferenceIdeal.Value.run (F := Ideal) m' g')
    refine (h c).1.trans (funext fun i => (congrArg _ (pair i)).trans ((ReferenceIdeal.Read.final m' c _ _).trans ?_))
    show result (Top.row (m' (c, Proc.devRef .tc ReferenceIdeal.main_arg0))) (Top.anchor (m' (c, Proc.devRef .tc ReferenceIdeal.main_arg0)) (m' (c, Proc.devRef .tc ReferenceIdeal.main_arg1))) _ _ = _
    rw [show m' (c, Proc.devRef .tc ReferenceIdeal.main_arg0) = _ from (hm c).1, show m' (c, Proc.devRef .tc ReferenceIdeal.main_arg1) = _ from (hm c).2]
    rfl

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames (the kernel's generated whole), the ideal kernel being the kernel with no rule applied, and the ideal kernel and
    the ideal reference giving the same result. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.ReferenceIdeal.Value.frame, trivial,
  Cert.Value.algebraic⟩

end Cert.Proof

end
